-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_params [hPre_exact_params : Cert.Pre_exact_params.Facts] (m : (ℓ : Loc Cert.KernelIdeal.nD Cert.KernelIdeal.τ Cert.KernelIdeal.sig) → Buf (Elt Ideal) ℓ) : Prop :=
  ∀ c : Dev Cert.KernelIdeal.nD,
    (Cert.Pre_exact_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_params [hPre_exact_params : Cert.Pre_exact_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_exact_params [hKernelIdeal : Cert.KernelIdeal.Facts] [hPre_exact_params : Cert.Pre_exact_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_exact_params [hReferenceIdeal : Cert.ReferenceIdeal.Facts] [hPre_exact_params : Cert.Pre_exact_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "two_over_log2" .f32 0x4038AA3B#32 ((2 * (Real.log 2)⁻¹ : ℝ) : EReal)

def algebraic_KernelIdeal_ReferenceIdeal_pre_exact_params [hKernelIdeal : Cert.KernelIdeal.Facts] [hReferenceIdeal : Cert.ReferenceIdeal.Facts] [hPre_exact_params : Cert.Pre_exact_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_exact_params : Cert.Pre_exact_params.Facts),
    quiescent_Kernel (hKernel := hKernel)
    ∧ quiescent_KernelIdeal (hKernelIdeal := hKernelIdeal)
    ∧ quiescent_KernelIdeal_pre_exact_params (hKernelIdeal := hKernelIdeal) (hPre_exact_params := hPre_exact_params)
    ∧ quiescent_ReferenceIdeal (hReferenceIdeal := hReferenceIdeal)
    ∧ quiescent_ReferenceIdeal_pre_exact_params (hReferenceIdeal := hReferenceIdeal) (hPre_exact_params := hPre_exact_params)
    ∧ preserves_Kernel_KernelIdeal
    ∧ algebraic_KernelIdeal_ReferenceIdeal_pre_exact_params (hKernelIdeal := hKernelIdeal) (hReferenceIdeal := hReferenceIdeal) (hPre_exact_params := hPre_exact_params)
-- ==== Pre_exact_params.lean ====
abbrev S8x256x256x36 : Shape := ⟨4, ![8, 256, 256, 36]⟩
abbrev S1 : Shape := ⟨1, ![1]⟩
abbrev S_ : Shape := ⟨0, ![]⟩

class Facts : Prop where
  bcast_S_S1 : S_.BroadcastsInDim S1 (![] : Fin 0 → Fin S1.rank)

variable [Facts]

def fn_part1 {F : FTy → Type} [FloatOps F] (main_arg8 : FVec F S1 .f32) (main_arg14 : FVec F S1 .f32) (main_arg16 : FVec F S1 .f32) (main_arg20 : FVec F S1 .f32) (main_arg22 : FVec F S1 .f32) (main_v14 : IVec S1 1) (main_v16 : IVec S1 1) (main_v17 : FVec F S1 .f32) : IVec S1 1 :=
  let main_v18 : IVec S1 1 := cmpf .ogt main_arg16 main_v17
  let main_v19 : IVec S1 1 := andi main_v16 main_v18
  let main_cst_5 : FVec F S_ .f32 := constant S_ .f32 0x00000000#32
  let main_v20 : FVec F S1 .f32 := broadcastInDim S1 ![] bcast_S_S1 main_cst_5
  let main_v21 : IVec S1 1 := cmpf .ogt main_arg22 main_v20
  let main_v22 : IVec S1 1 := andi main_v19 main_v21
  let main_cst_6 : FVec F S_ .f32 := constant S_ .f32 0x00000000#32
  let main_v23 : FVec F S1 .f32 := broadcastInDim S1 ![] bcast_S_S1 main_cst_6
  let main_v24 : IVec S1 1 := cmpf .oeq main_arg8 main_v23
  let main_cst_7 : FVec F S_ .f32 := constant S_ .f32 0x00000000#32
  let main_v25 : FVec F S1 .f32 := broadcastInDim S1 ![] bcast_S_S1 main_cst_7
  let main_v26 : IVec S1 1 := cmpf .oeq main_arg14 main_v25
  let main_v27 : IVec S1 1 := andi main_v24 main_v26
  let main_cst_8 : FVec F S_ .f32 := constant S_ .f32 0x00000000#32
  let main_v28 : FVec F S1 .f32 := broadcastInDim S1 ![] bcast_S_S1 main_cst_8
  let main_v29 : IVec S1 1 := cmpf .oeq main_arg20 main_v28
  let main_v30 : IVec S1 1 := andi main_v27 main_v29
  let main_v31 : IVec S1 1 := andi main_v14 main_v22
  let main_v32 : IVec S1 1 := andi main_v31 main_v30
  main_v32

def fn {F : FTy → Type} [FloatOps F] (main_arg0 : FVec F S8x256x256x36 .f32) (main_arg1 : FVec F S1 .f32) (main_arg2 : FVec F S1 .f32) (main_arg3 : FVec F S1 .f32) (main_arg4 : FVec F S1 .f32) (main_arg5 : FVec F S1 .f32) (main_arg6 : FVec F S1 .f32) (main_arg7 : FVec F S1 .f32) (main_arg8 : FVec F S1 .f32) (main_arg9 : FVec F S1 .f32) (main_arg10 : FVec F S1 .f32) (main_arg11 : FVec F S1 .f32) (main_arg12 : FVec F S1 .f32) (main_arg13 : FVec F S1 .f32) (main_arg14 : FVec F S1 .f32) (main_arg15 : FVec F S1 .f32) (main_arg16 : FVec F S1 .f32) (main_arg17 : FVec F S1 .f32) (main_arg18 : FVec F S1 .f32) (main_arg19 : FVec F S1 .f32) (main_arg20 : FVec F S1 .f32) (main_arg21 : FVec F S1 .f32) (main_arg22 : FVec F S1 .f32) : IVec S1 1 :=
  let main_v0 : FVec F S1 .f32 := Host.absf main_arg3
  let main_cst : FVec F S_ .f32 := constant S_ .f32 0x7F800000#32
  let main_v1 : FVec F S1 .f32 := broadcastInDim S1 ![] bcast_S_S1 main_cst
  let main_v2 : IVec S1 1 := cmpf .olt main_v0 main_v1
  let main_v3 : FVec F S1 .f32 := Host.absf main_arg7
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  let main_v6 : IVec S1 1 := andi main_v2 main_v5
  let main_v7 : FVec F S1 .f32 := Host.absf main_arg13
  let main_cst_1 : FVec F S_ .f32 := constant S_ .f32 0x7F800000#32
  let main_v8 : FVec F S1 .f32 := broadcastInDim S1 ![] bcast_S_S1 main_cst_1
  let main_v9 : IVec S1 1 := cmpf .olt main_v7 main_v8
  let main_v10 : IVec S1 1 := andi main_v6 main_v9
  let main_v11 : FVec F S1 .f32 := Host.absf main_arg19
  let main_cst_2 : FVec F S_ .f32 := constant S_ .f32 0x7F800000#32
  let main_v12 : FVec F S1 .f32 := broadcastInDim S1 ![] bcast_S_S1 main_cst_2
  let main_v13 : IVec S1 1 := cmpf .olt main_v11 main_v12
  let main_v14 : IVec S1 1 := andi main_v10 main_v13
  let main_cst_3 : FVec F S_ .f32 := constant S_ .f32 0x00000000#32
  let main_v15 : FVec F S1 .f32 := broadcastInDim S1 ![] bcast_S_S1 main_cst_3
  let main_v16 : IVec S1 1 := cmpf .ogt main_arg10 main_v15
  let main_cst_4 : FVec F S_ .f32 := constant S_ .f32 0x00000000#32
  let main_v17 : FVec F S1 .f32 := broadcastInDim S1 ![] bcast_S_S1 main_cst_4
  fn_part1 (F := F) main_arg8 main_arg14 main_arg16 main_arg20 main_arg22 main_v14 main_v16 main_v17
-- ==== Kernel.lean ====
abbrev S8x256x256x36 : Shape := ⟨4, ![8, 256, 256, 36]⟩
abbrev S1 : Shape := ⟨1, ![1]⟩
abbrev S_ : Shape := ⟨0, ![]⟩
abbrev S16 : Shape := ⟨1, ![16]⟩
abbrev S6 : Shape := ⟨1, ![6]⟩
abbrev S22 : Shape := ⟨1, ![22]⟩
abbrev S8x36x256x256 : Shape := ⟨4, ![8, 36, 256, 256]⟩
abbrev S2x36x256x256 : Shape := ⟨4, ![2, 36, 256, 256]⟩
abbrev S2 : Shape := ⟨1, ![2]⟩
abbrev S2x5 : Shape := ⟨2, ![2, 5]⟩
abbrev S1x36x256x256 : Shape := ⟨4, ![1, 36, 256, 256]⟩
abbrev S36x256x256 : Shape := ⟨3, ![36, 256, 256]⟩
abbrev S1x1 : Shape := ⟨2, ![1, 1]⟩
abbrev S1x6x256x256 : Shape := ⟨4, ![1, 6, 256, 256]⟩
abbrev S6x256x256 : Shape := ⟨3, ![6, 256, 256]⟩
abbrev S1x9x256x256 : Shape := ⟨4, ![1, 9, 256, 256]⟩
abbrev S9x256x256 : Shape := ⟨3, ![9, 256, 256]⟩
abbrev S1x7x256x256 : Shape := ⟨4, ![1, 7, 256, 256]⟩
abbrev S7x256x256 : Shape := ⟨3, ![7, 256, 256]⟩
abbrev S1x256x256 : Shape := ⟨3, ![1, 256, 256]⟩
abbrev S256x256 : Shape := ⟨2, ![256, 256]⟩
abbrev S1x256 : Shape := ⟨2, ![1, 256]⟩
abbrev S258x256 : Shape := ⟨2, ![258, 256]⟩
abbrev S258x1 : Shape := ⟨2, ![258, 1]⟩
abbrev S258x255 : Shape := ⟨2, ![258, 255]⟩

abbrev nBuf : Space → Nat
  | .hbm => 53
  | .vmem => 2
  | .smem => 1
  | _ => 0

abbrev bufTy : (tb : Table) → Fin (tcTables nBuf tb) → BufTy
  | .hbm, ⟨0, _⟩ => ⟨S8x256x256x36, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S16, .f32⟩
  | .hbm, ⟨48, _⟩ => ⟨S6, .f32⟩
  | .hbm, ⟨49, _⟩ => ⟨S22, .f32⟩
  | .hbm, ⟨50, _⟩ => ⟨S8x36x256x256, .f32⟩
  | .hbm, ⟨51, _⟩ => ⟨S8x36x256x256, .f32⟩
  | .hbm, ⟨52, _⟩ => ⟨S8x256x256x36, .f32⟩
  | .local _ .vmem, ⟨0, _⟩ => ⟨S2x36x256x256, .f32⟩
  | .local _ .vmem, ⟨1, _⟩ => ⟨S2x36x256x256, .f32⟩
  | .local _ .smem, ⟨0, _⟩ => ⟨S22, .f32⟩
  | _, _ => ⟨S8x256x256x36, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_cst_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_1 : Ref sig .tc := ⟨.hbm, 30, rfl⟩
abbrev main_v5 : Ref sig .tc := ⟨.hbm, 31, rfl⟩
abbrev main_v6 : Ref sig .tc := ⟨.hbm, 32, rfl⟩
abbrev main_cst_2 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_3 : Ref sig .tc := ⟨.hbm, 37, rfl⟩
abbrev main_v10 : Ref sig .tc := ⟨.hbm, 38, rfl⟩
abbrev main_v11 : Ref sig .tc := ⟨.hbm, 39, rfl⟩
abbrev main_cst_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_5 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c8_i32 : BitVec 32 := 8#32
  let v7 : BitVec 1 := Scalar.cmpi .slt v6 c8_i32
  let v8 : BitVec 32 := Scalar.extui v7
  let c0_i32_3 : BitVec 32 := 0#32
  let v9 : BitVec 1 := Scalar.cmpi .ne v8 c0_i32_3
  v9

def k0_off1 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off2 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_698 : BitVec 32 := 0#32
  let c0_i32_699 : BitVec 32 := 0#32
  let c0_i32_700 : BitVec 32 := 0#32
  ![v2.toNat, 0, 0, 0]
def k0_off3 (i : grid0.Coords) : Fin 4 → Nat :=
  let arg0 : BitVec 32 := BitVec.ofNat 32 (i 0).val
  let c1_i32_697 : BitVec 32 := 1#32
  let v1089 : BitVec 32 := Scalar.addi arg0 c1_i32_697
  let c0_i32_701 : BitVec 32 := 0#32
  let c0_i32_702 : BitVec 32 := 0#32
  let c0_i32_703 : BitVec 32 := 0#32
  ![v1089.toNat, 0, 0, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 4 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  let c0_i32_6 : BitVec 32 := 0#32
  ![v0.toNat, 0, 0, 0]
def k0_off6 (i : grid0.Coords) : Fin 4 → Nat :=
  let arg0 : BitVec 32 := BitVec.ofNat 32 (i 0).val
  let c0_i32_7 : BitVec 32 := 0#32
  let c0_i32_8 : BitVec 32 := 0#32
  let c0_i32_9 : BitVec 32 := 0#32
  ![arg0.toNat, 0, 0, 0]
def k0_cond3 (i : grid0.Coords) : BitVec 1 :=
  let arg0 : BitVec 32 := BitVec.ofNat 32 (i 0).val
  let c2_i32_10 : BitVec 32 := 2#32
  let v16 : BitVec 1 := Scalar.cmpi .sge arg0 c2_i32_10
  let v17 : BitVec 32 := Scalar.extui v16
  let c0_i32_11 : BitVec 32 := 0#32
  let v18 : BitVec 1 := Scalar.cmpi .ne v17 c0_i32_11
  v18

def k0_off7 (i : grid0.Coords) : Fin 2 → Nat :=
  let arg0 : BitVec 32 := BitVec.ofNat 32 (i 0).val
  let c2_i32 : BitVec 32 := 2#32
  let v0 : BitVec 32 := Scalar.remsi arg0 c2_i32
  let c0_i32_698 : BitVec 32 := 0#32
  ![v0.toNat, 0]
def k0_off8 (i : grid0.Coords) : Fin 4 → Nat :=
  let arg0 : BitVec 32 := BitVec.ofNat 32 (i 0).val
  let c2_i32_697 : BitVec 32 := 2#32
  let v1089 : BitVec 32 := Scalar.subi arg0 c2_i32_697
  let c0_i32_699 : BitVec 32 := 0#32
  let c0_i32_700 : BitVec 32 := 0#32
  let c0_i32_701 : BitVec 32 := 0#32
  ![v1089.toNat, 0, 0, 0]
def k0_off9 (i : grid0.Coords) : Fin 4 → Nat :=
  let arg0 : BitVec 32 := BitVec.ofNat 32 (i 0).val
  let c2_i32 : BitVec 32 := 2#32
  let v0 : BitVec 32 := Scalar.remsi arg0 c2_i32
  let c0_i32_702 : BitVec 32 := 0#32
  let c0_i32_703 : BitVec 32 := 0#32
  let c0_i32_704 : BitVec 32 := 0#32
  ![v0.toNat, 0, 0, 0]
def k0_off10 (i : grid0.Coords) : Fin 2 → Nat :=
  let arg0 : BitVec 32 := BitVec.ofNat 32 (i 0).val
  let c2_i32 : BitVec 32 := 2#32
  let v0 : BitVec 32 := Scalar.remsi arg0 c2_i32
  let c1_i32_706 : BitVec 32 := 1#32
  ![v0.toNat, 1]
def k0_off11 (i : grid0.Coords) : Fin 4 → Nat :=
  let arg0 : BitVec 32 := BitVec.ofNat 32 (i 0).val
  let c2_i32_705 : BitVec 32 := 2#32
  let v1096 : BitVec 32 := Scalar.subi arg0 c2_i32_705
  let c6_i32_707 : BitVec 32 := 6#32
  let c0_i32_708 : BitVec 32 := 0#32
  let c0_i32_709 : BitVec 32 := 0#32
  ![v1096.toNat, 6, 0, 0]
def k0_off12 (i : grid0.Coords) : Fin 4 → Nat :=
  let arg0 : BitVec 32 := BitVec.ofNat 32 (i 0).val
  let c2_i32 : BitVec 32 := 2#32
  let v0 : BitVec 32 := Scalar.remsi arg0 c2_i32
  let c6_i32_710 : BitVec 32 := 6#32
  let c0_i32_711 : BitVec 32 := 0#32
  let c0_i32_712 : BitVec 32 := 0#32
  ![v0.toNat, 6, 0, 0]
def k0_off13 (i : grid0.Coords) : Fin 2 → Nat :=
  let arg0 : BitVec 32 := BitVec.ofNat 32 (i 0).val
  let c2_i32 : BitVec 32 := 2#32
  let v0 : BitVec 32 := Scalar.remsi arg0 c2_i32
  let c2_i32_714 : BitVec 32 := 2#32
  ![v0.toNat, 2]
def k0_off14 (i : grid0.Coords) : Fin 4 → Nat :=
  let arg0 : BitVec 32 := BitVec.ofNat 32 (i 0).val
  let c2_i32_713 : BitVec 32 := 2#32
  let v1103 : BitVec 32 := Scalar.subi arg0 c2_i32_713
  let c15_i32_715 : BitVec 32 := 15#32
  let c0_i32_716 : BitVec 32 := 0#32
  let c0_i32_717 : BitVec 32 := 0#32
  ![v1103.toNat, 15, 0, 0]
def k0_off15 (i : grid0.Coords) : Fin 4 → Nat :=
  let arg0 : BitVec 32 := BitVec.ofNat 32 (i 0).val
  let c2_i32 : BitVec 32 := 2#32
  let v0 : BitVec 32 := Scalar.remsi arg0 c2_i32
  let c15_i32_718 : BitVec 32 := 15#32
  let c0_i32_719 : BitVec 32 := 0#32
  let c0_i32_720 : BitVec 32 := 0#32
  ![v0.toNat, 15, 0, 0]
def k0_off16 (i : grid0.Coords) : Fin 2 → Nat :=
  let arg0 : BitVec 32 := BitVec.ofNat 32 (i 0).val
  let c2_i32 : BitVec 32 := 2#32
  let v0 : BitVec 32 := Scalar.remsi arg0 c2_i32
  let c3_i32_722 : BitVec 32 := 3#32
  ![v0.toNat, 3]
def k0_off17 (i : grid0.Coords) : Fin 4 → Nat :=
  let arg0 : BitVec 32 := BitVec.ofNat 32 (i 0).val
  let c2_i32_721 : BitVec 32 := 2#32
  let v1110 : BitVec 32 := Scalar.subi arg0 c2_i32_721
  let c22_i32_723 : BitVec 32 := 22#32
  let c0_i32_724 : BitVec 32 := 0#32
  let c0_i32_725 : BitVec 32 := 0#32
  ![v1110.toNat, 22, 0, 0]
def k0_off18 (i : grid0.Coords) : Fin 4 → Nat :=
  let arg0 : BitVec 32 := BitVec.ofNat 32 (i 0).val
  let c2_i32 : BitVec 32 := 2#32
  let v0 : BitVec 32 := Scalar.remsi arg0 c2_i32
  let c22_i32_726 : BitVec 32 := 22#32
  let c0_i32_727 : BitVec 32 := 0#32
  let c0_i32_728 : BitVec 32 := 0#32
  ![v0.toNat, 22, 0, 0]
def k0_off19 (i : grid0.Coords) : Fin 2 → Nat :=
  let arg0 : BitVec 32 := BitVec.ofNat 32 (i 0).val
  let c2_i32 : BitVec 32 := 2#32
  let v0 : BitVec 32 := Scalar.remsi arg0 c2_i32
  let c4_i32_730 : BitVec 32 := 4#32
  ![v0.toNat, 4]
def k0_off20 (i : grid0.Coords) : Fin 4 → Nat :=
  let arg0 : BitVec 32 := BitVec.ofNat 32 (i 0).val
  let c2_i32_729 : BitVec 32 := 2#32
  let v1117 : BitVec 32 := Scalar.subi arg0 c2_i32_729
  let c29_i32_731 : BitVec 32 := 29#32
  let c0_i32_732 : BitVec 32 := 0#32
  let c0_i32_733 : BitVec 32 := 0#32
  ![v1117.toNat, 29, 0, 0]
def k0_off21 (i : grid0.Coords) : Fin 4 → Nat :=
  let arg0 : BitVec 32 := BitVec.ofNat 32 (i 0).val
  let c2_i32 : BitVec 32 := 2#32
  let v0 : BitVec 32 := Scalar.remsi arg0 c2_i32
  let c29_i32_734 : BitVec 32 := 29#32
  let c0_i32_735 : BitVec 32 := 0#32
  let c0_i32_736 : BitVec 32 := 0#32
  ![v0.toNat, 29, 0, 0]
def k0_off22 (i : grid0.Coords) : Fin 2 → Nat :=
  let arg0 : BitVec 32 := BitVec.ofNat 32 (i 0).val
  let c2_i32 : BitVec 32 := 2#32
  let v0 : BitVec 32 := Scalar.remsi arg0 c2_i32
  let c0_i32_109 : BitVec 32 := 0#32
  ![v0.toNat, 0]
def k0_off23 (i : grid0.Coords) : Fin 4 → Nat :=
  let arg0 : BitVec 32 := BitVec.ofNat 32 (i 0).val
  let c0_i32_110 : BitVec 32 := 0#32
  let c0_i32_111 : BitVec 32 := 0#32
  let c0_i32_112 : BitVec 32 := 0#32
  ![arg0.toNat, 0, 0, 0]
def k0_off24 (i : grid0.Coords) : Fin 4 → Nat :=
  let arg0 : BitVec 32 := BitVec.ofNat 32 (i 0).val
  let c2_i32 : BitVec 32 := 2#32
  let v0 : BitVec 32 := Scalar.remsi arg0 c2_i32
  let c0_i32_113 : BitVec 32 := 0#32
  let c0_i32_114 : BitVec 32 := 0#32
  let c0_i32_115 : BitVec 32 := 0#32
  ![v0.toNat, 0, 0, 0]
def k0_off25 (i : grid0.Coords) : Fin 2 → Nat :=
  let arg0 : BitVec 32 := BitVec.ofNat 32 (i 0).val
  let c2_i32 : BitVec 32 := 2#32
  let v0 : BitVec 32 := Scalar.remsi arg0 c2_i32
  let c1_i32_288 : BitVec 32 := 1#32
  ![v0.toNat, 1]
def k0_off26 (i : grid0.Coords) : Fin 4 → Nat :=
  let arg0 : BitVec 32 := BitVec.ofNat 32 (i 0).val
  let c6_i32 : BitVec 32 := 6#32
  let c0_i32_289 : BitVec 32 := 0#32
  let c0_i32_290 : BitVec 32 := 0#32
  ![arg0.toNat, 6, 0, 0]
def k0_off27 (i : grid0.Coords) : Fin 4 → Nat :=
  let arg0 : BitVec 32 := BitVec.ofNat 32 (i 0).val
  let c2_i32 : BitVec 32 := 2#32
  let v0 : BitVec 32 := Scalar.remsi arg0 c2_i32
  let c6_i32_291 : BitVec 32 := 6#32
  let c0_i32_292 : BitVec 32 := 0#32
  let c0_i32_293 : BitVec 32 := 0#32
  ![v0.toNat, 6, 0, 0]
def k0_off28 (i : grid0.Coords) : Fin 2 → Nat :=
  let arg0 : BitVec 32 := BitVec.ofNat 32 (i 0).val
  let c2_i32 : BitVec 32 := 2#32
  let v0 : BitVec 32 := Scalar.remsi arg0 c2_i32
  let c2_i32_498 : BitVec 32 := 2#32
  ![v0.toNat, 2]
def k0_off29 (i : grid0.Coords) : Fin 4 → Nat :=
  let arg0 : BitVec 32 := BitVec.ofNat 32 (i 0).val
  let c15_i32 : BitVec 32 := 15#32
  let c0_i32_499 : BitVec 32 := 0#32
  let c0_i32_500 : BitVec 32 := 0#32
  ![arg0.toNat, 15, 0, 0]
def k0_off30 (i : grid0.Coords) : Fin 4 → Nat :=
  let arg0 : BitVec 32 := BitVec.ofNat 32 (i 0).val
  let c2_i32 : BitVec 32 := 2#32
  let v0 : BitVec 32 := Scalar.remsi arg0 c2_i32
  let c15_i32_501 : BitVec 32 := 15#32
  let c0_i32_502 : BitVec 32 := 0#32
  let c0_i32_503 : BitVec 32 := 0#32
  ![v0.toNat, 15, 0, 0]
def k0_off31 (i : grid0.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k0_off32 (i : grid0.Coords) : Fin 4 → Nat :=
  let arg0 : BitVec 32 := BitVec.ofNat 32 (i 0).val
  let c22_i32 : BitVec 32 := 22#32
  let c0_i32_595 : BitVec 32 := 0#32
  let c0_i32_596 : BitVec 32 := 0#32
  ![arg0.toNat, 22, 0, 0]
def k0_off33 (i : grid0.Coords) : Fin 4 → Nat :=
  let arg0 : BitVec 32 := BitVec.ofNat 32 (i 0).val
  let c2_i32 : BitVec 32 := 2#32
  let v0 : BitVec 32 := Scalar.remsi arg0 c2_i32
  let c22_i32_597 : BitVec 32 := 22#32
  let c0_i32_598 : BitVec 32 := 0#32
  let c0_i32_599 : BitVec 32 := 0#32
  ![v0.toNat, 22, 0, 0]
def k0_off34 (i : grid0.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k0_off35 (i : grid0.Coords) : Fin 4 → Nat :=
  let arg0 : BitVec 32 := BitVec.ofNat 32 (i 0).val
  let c29_i32 : BitVec 32 := 29#32
  let c0_i32_691 : BitVec 32 := 0#32
  let c0_i32_692 : BitVec 32 := 0#32
  ![arg0.toNat, 29, 0, 0]
def k0_off36 (i : grid0.Coords) : Fin 4 → Nat :=
  let arg0 : BitVec 32 := BitVec.ofNat 32 (i 0).val
  let c2_i32 : BitVec 32 := 2#32
  let v0 : BitVec 32 := Scalar.remsi arg0 c2_i32
  let c29_i32_693 : BitVec 32 := 29#32
  let c0_i32_694 : BitVec 32 := 0#32
  let c0_i32_695 : BitVec 32 := 0#32
  ![v0.toNat, 29, 0, 0]
def k0_cond4 (i : grid0.Coords) : BitVec 1 :=
  let arg0 : BitVec 32 := BitVec.ofNat 32 (i 0).val
  let c7_i32 : BitVec 32 := 7#32
  let v1086 : BitVec 1 := Scalar.cmpi .eq arg0 c7_i32
  let v1087 : BitVec 32 := Scalar.extui v1086
  let c0_i32_696 : BitVec 32 := 0#32
  let v1088 : BitVec 1 := Scalar.cmpi .ne v1087 c0_i32_696
  v1088

def k0_off37 (i : grid0.Coords) : Fin 2 → Nat :=
  let arg0 : BitVec 32 := BitVec.ofNat 32 (i 0).val
  let c2_i32 : BitVec 32 := 2#32
  let v0 : BitVec 32 := Scalar.remsi arg0 c2_i32
  let c0_i32_697 : BitVec 32 := 0#32
  ![v0.toNat, 0]
def k0_off38 (i : grid0.Coords) : Fin 4 → Nat :=
  let arg0 : BitVec 32 := BitVec.ofNat 32 (i 0).val
  let c0_i32_698 : BitVec 32 := 0#32
  let c0_i32_699 : BitVec 32 := 0#32
  let c0_i32_700 : BitVec 32 := 0#32
  ![arg0.toNat, 0, 0, 0]
def k0_off39 (i : grid0.Coords) : Fin 4 → Nat :=
  let arg0 : BitVec 32 := BitVec.ofNat 32 (i 0).val
  let c2_i32 : BitVec 32 := 2#32
  let v0 : BitVec 32 := Scalar.remsi arg0 c2_i32
  let c0_i32_701 : BitVec 32 := 0#32
  let c0_i32_702 : BitVec 32 := 0#32
  let c0_i32_703 : BitVec 32 := 0#32
  ![v0.toNat, 0, 0, 0]
def k0_off40 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_705 : BitVec 32 := 0#32
  ![v2.toNat, 0]
def k0_off41 (i : grid0.Coords) : Fin 4 → Nat :=
  let arg0 : BitVec 32 := BitVec.ofNat 32 (i 0).val
  let c1_i32_704 : BitVec 32 := 1#32
  let v1095 : BitVec 32 := Scalar.subi arg0 c1_i32_704
  let c0_i32_706 : BitVec 32 := 0#32
  let c0_i32_707 : BitVec 32 := 0#32
  let c0_i32_708 : BitVec 32 := 0#32
  ![v1095.toNat, 0, 0, 0]
def k0_off42 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_709 : BitVec 32 := 0#32
  let c0_i32_710 : BitVec 32 := 0#32
  let c0_i32_711 : BitVec 32 := 0#32
  ![v2.toNat, 0, 0, 0]
def k0_off43 (i : grid0.Coords) : Fin 2 → Nat :=
  let arg0 : BitVec 32 := BitVec.ofNat 32 (i 0).val
  let c2_i32 : BitVec 32 := 2#32
  let v0 : BitVec 32 := Scalar.remsi arg0 c2_i32
  let c1_i32_712 : BitVec 32 := 1#32
  ![v0.toNat, 1]
def k0_off44 (i : grid0.Coords) : Fin 4 → Nat :=
  let arg0 : BitVec 32 := BitVec.ofNat 32 (i 0).val
  let c6_i32_713 : BitVec 32 := 6#32
  let c0_i32_714 : BitVec 32 := 0#32
  let c0_i32_715 : BitVec 32 := 0#32
  ![arg0.toNat, 6, 0, 0]
def k0_off45 (i : grid0.Coords) : Fin 4 → Nat :=
  let arg0 : BitVec 32 := BitVec.ofNat 32 (i 0).val
  let c2_i32 : BitVec 32 := 2#32
  let v0 : BitVec 32 := Scalar.remsi arg0 c2_i32
  let c6_i32_716 : BitVec 32 := 6#32
  let c0_i32_717 : BitVec 32 := 0#32
  let c0_i32_718 : BitVec 32 := 0#32
  ![v0.toNat, 6, 0, 0]
def k0_off46 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_720 : BitVec 32 := 1#32
  ![v2.toNat, 1]
def k0_off47 (i : grid0.Coords) : Fin 4 → Nat :=
  let arg0 : BitVec 32 := BitVec.ofNat 32 (i 0).val
  let c1_i32_719 : BitVec 32 := 1#32
  let v1108 : BitVec 32 := Scalar.subi arg0 c1_i32_719
  let c6_i32_721 : BitVec 32 := 6#32
  let c0_i32_722 : BitVec 32 := 0#32
  let c0_i32_723 : BitVec 32 := 0#32
  ![v1108.toNat, 6, 0, 0]
def k0_off48 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c6_i32_724 : BitVec 32 := 6#32
  let c0_i32_725 : BitVec 32 := 0#32
  let c0_i32_726 : BitVec 32 := 0#32
  ![v2.toNat, 6, 0, 0]
def k0_off49 (i : grid0.Coords) : Fin 2 → Nat :=
  let arg0 : BitVec 32 := BitVec.ofNat 32 (i 0).val
  let c2_i32 : BitVec 32 := 2#32
  let v0 : BitVec 32 := Scalar.remsi arg0 c2_i32
  let c2_i32_727 : BitVec 32 := 2#32
  ![v0.toNat, 2]
def k0_off50 (i : grid0.Coords) : Fin 4 → Nat :=
  let arg0 : BitVec 32 := BitVec.ofNat 32 (i 0).val
  let c15_i32_728 : BitVec 32 := 15#32
  let c0_i32_729 : BitVec 32 := 0#32
  let c0_i32_730 : BitVec 32 := 0#32
  ![arg0.toNat, 15, 0, 0]
def k0_off51 (i : grid0.Coords) : Fin 4 → Nat :=
  let arg0 : BitVec 32 := BitVec.ofNat 32 (i 0).val
  let c2_i32 : BitVec 32 := 2#32
  let v0 : BitVec 32 := Scalar.remsi arg0 c2_i32
  let c15_i32_731 : BitVec 32 := 15#32
  let c0_i32_732 : BitVec 32 := 0#32
  let c0_i32_733 : BitVec 32 := 0#32
  ![v0.toNat, 15, 0, 0]
def k0_off52 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2_i32_735 : BitVec 32 := 2#32
  ![v2.toNat, 2]
def k0_off53 (i : grid0.Coords) : Fin 4 → Nat :=
  let arg0 : BitVec 32 := BitVec.ofNat 32 (i 0).val
  let c1_i32_734 : BitVec 32 := 1#32
  let v1121 : BitVec 32 := Scalar.subi arg0 c1_i32_734
  let c15_i32_736 : BitVec 32 := 15#32
  let c0_i32_737 : BitVec 32 := 0#32
  let c0_i32_738 : BitVec 32 := 0#32
  ![v1121.toNat, 15, 0, 0]
def k0_off54 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c15_i32_739 : BitVec 32 := 15#32
  let c0_i32_740 : BitVec 32 := 0#32
  let c0_i32_741 : BitVec 32 := 0#32
  ![v2.toNat, 15, 0, 0]
def k0_off55 (i : grid0.Coords) : Fin 2 → Nat :=
  let arg0 : BitVec 32 := BitVec.ofNat 32 (i 0).val
  let c2_i32 : BitVec 32 := 2#32
  let v0 : BitVec 32 := Scalar.remsi arg0 c2_i32
  let c3_i32_742 : BitVec 32 := 3#32
  ![v0.toNat, 3]
def k0_off56 (i : grid0.Coords) : Fin 4 → Nat :=
  let arg0 : BitVec 32 := BitVec.ofNat 32 (i 0).val
  let c22_i32_743 : BitVec 32 := 22#32
  let c0_i32_744 : BitVec 32 := 0#32
  let c0_i32_745 : BitVec 32 := 0#32
  ![arg0.toNat, 22, 0, 0]
def k0_off57 (i : grid0.Coords) : Fin 4 → Nat :=
  let arg0 : BitVec 32 := BitVec.ofNat 32 (i 0).val
  let c2_i32 : BitVec 32 := 2#32
  let v0 : BitVec 32 := Scalar.remsi arg0 c2_i32
  let c22_i32_746 : BitVec 32 := 22#32
  let c0_i32_747 : BitVec 32 := 0#32
  let c0_i32_748 : BitVec 32 := 0#32
  ![v0.toNat, 22, 0, 0]
def k0_off58 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c3_i32_750 : BitVec 32 := 3#32
  ![v2.toNat, 3]
def k0_off59 (i : grid0.Coords) : Fin 4 → Nat :=
  let arg0 : BitVec 32 := BitVec.ofNat 32 (i 0).val
  let c1_i32_749 : BitVec 32 := 1#32
  let v1134 : BitVec 32 := Scalar.subi arg0 c1_i32_749
  let c22_i32_751 : BitVec 32 := 22#32
  let c0_i32_752 : BitVec 32 := 0#32
  let c0_i32_753 : BitVec 32 := 0#32
  ![v1134.toNat, 22, 0, 0]
def k0_off60 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c22_i32_754 : BitVec 32 := 22#32
  let c0_i32_755 : BitVec 32 := 0#32
  let c0_i32_756 : BitVec 32 := 0#32
  ![v2.toNat, 22, 0, 0]
def k0_off61 (i : grid0.Coords) : Fin 2 → Nat :=
  let arg0 : BitVec 32 := BitVec.ofNat 32 (i 0).val
  let c2_i32 : BitVec 32 := 2#32
  let v0 : BitVec 32 := Scalar.remsi arg0 c2_i32
  let c4_i32_757 : BitVec 32 := 4#32
  ![v0.toNat, 4]
def k0_off62 (i : grid0.Coords) : Fin 4 → Nat :=
  let arg0 : BitVec 32 := BitVec.ofNat 32 (i 0).val
  let c29_i32_758 : BitVec 32 := 29#32
  let c0_i32_759 : BitVec 32 := 0#32
  let c0_i32_760 : BitVec 32 := 0#32
  ![arg0.toNat, 29, 0, 0]
def k0_off63 (i : grid0.Coords) : Fin 4 → Nat :=
  let arg0 : BitVec 32 := BitVec.ofNat 32 (i 0).val
  let c2_i32 : BitVec 32 := 2#32
  let v0 : BitVec 32 := Scalar.remsi arg0 c2_i32
  let c29_i32_761 : BitVec 32 := 29#32
  let c0_i32_762 : BitVec 32 := 0#32
  let c0_i32_763 : BitVec 32 := 0#32
  ![v0.toNat, 29, 0, 0]
def k0_off64 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c4_i32_765 : BitVec 32 := 4#32
  ![v2.toNat, 4]
def k0_off65 (i : grid0.Coords) : Fin 4 → Nat :=
  let arg0 : BitVec 32 := BitVec.ofNat 32 (i 0).val
  let c1_i32_764 : BitVec 32 := 1#32
  let v1147 : BitVec 32 := Scalar.subi arg0 c1_i32_764
  let c29_i32_766 : BitVec 32 := 29#32
  let c0_i32_767 : BitVec 32 := 0#32
  let c0_i32_768 : BitVec 32 := 0#32
  ![v1147.toNat, 29, 0, 0]
def k0_off66 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c29_i32_769 : BitVec 32 := 29#32
  let c0_i32_770 : BitVec 32 := 0#32
  let c0_i32_771 : BitVec 32 := 0#32
  ![v2.toNat, 29, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S22 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
variable {F : FTy → Type} [FloatOps F] [Named F]
def κ : String → Option EReal := fun
  | "two_over_log2" => some ((2 * (Real.log 2)⁻¹ : ℝ) : EReal)
  | _ => none
-- ==== ReferenceIdeal.lean ====
abbrev S8x256x256x36 : Shape := ⟨4, ![8, 256, 256, 36]⟩
abbrev S1 : Shape := ⟨1, ![1]⟩
abbrev S8x256x256x3 : Shape := ⟨4, ![8, 256, 256, 3]⟩
abbrev S1x1x1x1 : Shape := ⟨4, ![1, 1, 1, 1]⟩
abbrev S8x256x256x9 : Shape := ⟨4, ![8, 256, 256, 9]⟩
abbrev S8x256x256x21 : Shape := ⟨4, ![8, 256, 256, 21]⟩
abbrev S_ : Shape := ⟨0, ![]⟩
abbrev S8x256x256 : Shape := ⟨3, ![8, 256, 256]⟩
abbrev S24x256x256 : Shape := ⟨3, ![24, 256, 256]⟩
abbrev S24x1x256 : Shape := ⟨3, ![24, 1, 256]⟩
abbrev S24x258x256 : Shape := ⟨3, ![24, 258, 256]⟩
abbrev S24x258x1 : Shape := ⟨3, ![24, 258, 1]⟩
abbrev S24x258x258 : Shape := ⟨3, ![24, 258, 258]⟩
abbrev S1x1x1 : Shape := ⟨3, ![1, 1, 1]⟩
abbrev S8x256x256x1 : Shape := ⟨4, ![8, 256, 256, 1]⟩

abbrev nBuf : Space → Nat
  | .hbm => 164
  | .vmem => 0
  | .smem => 0
  | _ => 0

abbrev hbmTy0_0 (i : Nat) : BufTy := match i % 128 with
  | 0 => ⟨S8x256x256x36, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S1, .f32⟩
  | 8 => ⟨S1, .f32⟩
  | 9 => ⟨S1, .f32⟩
  | 10 => ⟨S1, .f32⟩
  | 11 => ⟨S1, .f32⟩
  | 12 => ⟨S1, .f32⟩
  | 13 => ⟨S1, .f32⟩
  | 14 => ⟨S1, .f32⟩
  | 15 => ⟨S1, .f32⟩
  | 16 => ⟨S1, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S8x256x256x3, .f32⟩
  | 24 => ⟨S1x1x1x1, .f32⟩
  | 25 => ⟨S8x256x256x3, .f32⟩
  | 26 => ⟨S8x256x256x3, .f32⟩
  | 27 => ⟨S1x1x1x1, .f32⟩
  | 28 => ⟨S8x256x256x3, .f32⟩
  | 29 => ⟨S8x256x256x3, .f32⟩
  | 30 => ⟨S8x256x256x3, .f32⟩
  | 31 => ⟨S1x1x1x1, .f32⟩
  | 32 => ⟨S8x256x256x3, .f32⟩
  | 33 => ⟨S8x256x256x3, .f32⟩
  | 34 => ⟨S8x256x256x3, .f32⟩
  | 35 => ⟨S8x256x256x9, .f32⟩
  | 36 => ⟨S8x256x256x21, .f32⟩
  | 37 => ⟨S1x1x1x1, .f32⟩
  | 38 => ⟨S8x256x256x3, .f32⟩
  | 39 => ⟨S8x256x256x3, .f32⟩
  | 40 => ⟨S8x256x256x3, .f32⟩
  | 41 => ⟨S1x1x1x1, .f32⟩
  | 42 => ⟨S8x256x256x3, .f32⟩
  | 43 => ⟨S8x256x256x3, .f32⟩
  | 44 => ⟨S8x256x256x3, .f32⟩
  | 45 => ⟨S_, .f32⟩
  | 46 => ⟨S8x256x256, .f32⟩
  | 47 => ⟨S1x1x1x1, .f32⟩
  | 48 => ⟨S8x256x256x9, .f32⟩
  | 49 => ⟨S8x256x256x9, .f32⟩
  | 50 => ⟨S8x256x256x9, .f32⟩
  | 51 => ⟨S1x1x1x1, .f32⟩
  | 52 => ⟨S8x256x256x9, .f32⟩
  | 53 => ⟨S8x256x256x9, .f32⟩
  | 54 => ⟨S8x256x256x9, .f32⟩
  | 55 => ⟨S_, .f32⟩
  | 56 => ⟨S8x256x256, .f32⟩
  | 57 => ⟨S1x1x1x1, .f32⟩
  | 58 => ⟨S8x256x256x21, .f32⟩
  | 59 => ⟨S8x256x256x21, .f32⟩
  | 60 => ⟨S8x256x256x21, .f32⟩
  | 61 => ⟨S1x1x1x1, .f32⟩
  | 62 => ⟨S8x256x256x21, .f32⟩
  | 63 => ⟨S8x256x256x21, .f32⟩
  | 64 => ⟨S8x256x256x21, .f32⟩
  | 65 => ⟨S_, .f32⟩
  | 66 => ⟨S8x256x256, .f32⟩
  | 67 => ⟨S24x256x256, .f32⟩
  | 68 => ⟨S24x1x256, .f32⟩
  | 69 => ⟨S24x1x256, .f32⟩
  | 70 => ⟨S24x258x256, .f32⟩
  | 71 => ⟨S24x258x1, .f32⟩
  | 72 => ⟨S24x258x1, .f32⟩
  | 73 => ⟨S24x258x258, .f32⟩
  | 74 => ⟨S_, .f32⟩
  | 75 => ⟨S24x256x256, .f32⟩
  | 76 => ⟨S24x256x256, .f32⟩
  | 77 => ⟨S24x256x256, .f32⟩
  | 78 => ⟨S24x256x256, .f32⟩
  | 79 => ⟨S24x256x256, .f32⟩
  | 80 => ⟨S24x256x256, .f32⟩
  | 81 => ⟨S24x256x256, .f32⟩
  | 82 => ⟨S24x256x256, .f32⟩
  | 83 => ⟨S24x256x256, .f32⟩
  | 84 => ⟨S24x256x256, .f32⟩
  | 85 => ⟨S24x256x256, .f32⟩
  | 86 => ⟨S24x256x256, .f32⟩
  | 87 => ⟨S24x256x256, .f32⟩
  | 88 => ⟨S24x256x256, .f32⟩
  | 89 => ⟨S24x256x256, .f32⟩
  | 90 => ⟨S24x256x256, .f32⟩
  | 91 => ⟨S24x256x256, .f32⟩
  | 92 => ⟨S24x256x256, .f32⟩
  | 93 => ⟨S24x256x256, .f32⟩
  | 94 => ⟨S8x256x256, .f32⟩
  | 95 => ⟨S1x1x1, .f32⟩
  | 96 => ⟨S8x256x256, .f32⟩
  | 97 => ⟨S8x256x256, .f32⟩
  | 98 => ⟨S_, .f32⟩
  | 99 => ⟨S8x256x256, .f32⟩
  | 100 => ⟨S8x256x256, .f32⟩
  | 101 => ⟨S1x1x1, .f32⟩
  | 102 => ⟨S8x256x256, .f32⟩
  | 103 => ⟨S8x256x256, .f32⟩
  | 104 => ⟨S8x256x256x1, .f32⟩
  | 105 => ⟨S1x1x1x1, .f32⟩
  | 106 => ⟨S8x256x256x1, .f32⟩
  | 107 => ⟨S8x256x256x1, .f32⟩
  | 108 => ⟨S1x1x1x1, .f32⟩
  | 109 => ⟨S8x256x256x3, .f32⟩
  | 110 => ⟨S8x256x256x3, .f32⟩
  | 111 => ⟨S8x256x256x3, .f32⟩
  | 112 => ⟨S8x256x256x3, .f32⟩
  | 113 => ⟨S8x256x256x3, .f32⟩
  | 114 => ⟨S1x1x1x1, .f32⟩
  | 115 => ⟨S8x256x256x3, .f32⟩
  | 116 => ⟨S8x256x256x3, .f32⟩
  | 117 => ⟨S8x256x256, .f32⟩
  | 118 => ⟨S1x1x1, .f32⟩
  | 119 => ⟨S8x256x256, .f32⟩
  | 120 => ⟨S8x256x256, .f32⟩
  | 121 => ⟨S_, .f32⟩
  | 122 => ⟨S8x256x256, .f32⟩
  | 123 => ⟨S8x256x256, .f32⟩
  | 124 => ⟨S1x1x1, .f32⟩
  | 125 => ⟨S8x256x256, .f32⟩
  | 126 => ⟨S8x256x256, .f32⟩
  | 127 => ⟨S8x256x256x1, .f32⟩
  | _ => ⟨S8x256x256x36, .f32⟩

abbrev hbmTy0_1 (i : Nat) : BufTy := match i % 128 with
  | 0 => ⟨S1x1x1x1, .f32⟩
  | 1 => ⟨S8x256x256x1, .f32⟩
  | 2 => ⟨S8x256x256x1, .f32⟩
  | 3 => ⟨S1x1x1x1, .f32⟩
  | 4 => ⟨S8x256x256x9, .f32⟩
  | 5 => ⟨S8x256x256x9, .f32⟩
  | 6 => ⟨S8x256x256x9, .f32⟩
  | 7 => ⟨S8x256x256x9, .f32⟩
  | 8 => ⟨S8x256x256x9, .f32⟩
  | 9 => ⟨S1x1x1x1, .f32⟩
  | 10 => ⟨S8x256x256x9, .f32⟩
  | 11 => ⟨S8x256x256x9, .f32⟩
  | 12 => ⟨S8x256x256, .f32⟩
  | 13 => ⟨S1x1x1, .f32⟩
  | 14 => ⟨S8x256x256, .f32⟩
  | 15 => ⟨S8x256x256, .f32⟩
  | 16 => ⟨S_, .f32⟩
  | 17 => ⟨S8x256x256, .f32⟩
  | 18 => ⟨S8x256x256, .f32⟩
  | 19 => ⟨S1x1x1, .f32⟩
  | 20 => ⟨S8x256x256, .f32⟩
  | 21 => ⟨S8x256x256, .f32⟩
  | 22 => ⟨S8x256x256x1, .f32⟩
  | 23 => ⟨S1x1x1x1, .f32⟩
  | 24 => ⟨S8x256x256x1, .f32⟩
  | 25 => ⟨S8x256x256x1, .f32⟩
  | 26 => ⟨S1x1x1x1, .f32⟩
  | 27 => ⟨S8x256x256x21, .f32⟩
  | 28 => ⟨S8x256x256x21, .f32⟩
  | 29 => ⟨S8x256x256x21, .f32⟩
  | 30 => ⟨S8x256x256x21, .f32⟩
  | 31 => ⟨S8x256x256x21, .f32⟩
  | 32 => ⟨S1x1x1x1, .f32⟩
  | 33 => ⟨S8x256x256x21, .f32⟩
  | 34 => ⟨S8x256x256x21, .f32⟩
  | 35 => ⟨S8x256x256x36, .f32⟩
  | _ => ⟨S8x256x256x36, .f32⟩

abbrev hbmTy (i : Nat) : BufTy := match i / 128 with
  | 0 => hbmTy0_0 i
  | 1 => hbmTy0_1 i
  | _ => ⟨S8x256x256x36, .f32⟩

abbrev bufTy : (tb : Table) → Fin (tcTables nBuf tb) → BufTy
  | .hbm, ⟨i, _⟩ => hbmTy i
  | _, _ => ⟨S8x256x256x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_1 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_2 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_3 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_4 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_5 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩

abbrev nD : Nat := 1
abbrev τ : Topo := Topo.v7x

variable {F : FTy → Type} [FloatOps F]
-- ==== Proof.Boxes.lean ====
module

public import proofs.«01_k».proof.KernelIdeal
public import Idealize.ShloMosaic.Lib.Writes
public import Idealize.ShloMosaic.Lib.Exec.Geometry

/-! # Where the printed views lie

The kernel names a piece of a rank-4 buffer by slicing a `1 × n × 256 × 256` box out of it and dropping the leading axis.
These lemmas say which elements such a view covers, and that a run of channels of a whole slot is the same set of elements
whether it is named through the slot or sliced from the buffer directly. -/

@[expose] public section

noncomputable section

namespace Cert.KernelIdeal.Boxes

open Idealize.ShloMosaic
open Cert.KernelIdeal

variable {κ : Kind} {sp : Space} {e : EltTy}

/-- Membership in a box of stride one, by coordinates. -/
theorem mem_unit {s : Shape} {off size : Fin s.rank → ℕ} (inb : ∀ a, off a + size a ≤ s.size a) (y : s.Idx) :
    y ∈ (Rect.unit off size inb).set ↔ ∀ a, off a ≤ (y a).val ∧ (y a).val < off a + size a := by
  rw [LoadRect.mem_set]
  constructor
  · intro h a
    obtain ⟨j, hj, hy⟩ := h a
    have hj' : j < size a := hj
    have hy' : (y a).val = off a + 1 * j := hy
    omega
  · intro h a
    refine ⟨(y a).val - off a, ?_, ?_⟩
    · show (y a).val - off a < size a
      have := h a; omega
    · show (y a).val = off a + 1 * ((y a).val - off a)
      have := h a; omega

/-- The elements of a slot's channels `k … k+n-1`, named through the slot (leading axis dropped), are the box
    `1 × n × 256 × 256` of the buffer at the slot. -/
theorem setOn_slot {N : ℕ} (v : View sig κ sp ⟨4, ![N, 36, 256, 256]⟩ e) (o o' : Fin 4 → ℕ) (k n : ℕ)
    (inb : ∀ a, o a + (![1, 36, 256, 256] : Fin 4 → ℕ) a ≤ (⟨4, ![N, 36, 256, 256]⟩ : Shape).size a)
    (inb' : ∀ a, o' a + (![1, n, 256, 256] : Fin 4 → ℕ) a ≤ (⟨4, ![N, 36, 256, 256]⟩ : Shape).size a)
    (inbk : ∀ a, (![k, 0, 0] : Fin 3 → ℕ) a + (![n, 256, 256] : Fin 3 → ℕ) a ≤ (⟨3, ![36, 256, 256]⟩ : Shape).size a)
    (h : (⟨3, ![36, 256, 256]⟩ : Shape).numel = (⟨4, ![1, 36, 256, 256]⟩ : Shape).numel)
    (ho : o 1 = 0 ∧ o 2 = 0 ∧ o 3 = 0) (ho' : o' 0 = o 0 ∧ o' 1 = k ∧ o' 2 = 0 ∧ o' 3 = 0) :
    ((v.slice (Rect.unit (s := ⟨4, ![N, 36, 256, 256]⟩) o ![1, 36, 256, 256] inb)).reshape ⟨3, ![36, 256, 256]⟩ h).setOn
        (Rect.unit (s := ⟨3, ![36, 256, 256]⟩) ![k, 0, 0] ![n, 256, 256] inbk).set
      = (v.slice (Rect.unit (s := ⟨4, ![N, 36, 256, 256]⟩) o' ![1, n, 256, 256] inb')).set := by
  obtain ⟨ho1, ho2, ho3⟩ := ho
  obtain ⟨h0', h1', h2', h3'⟩ := ho'
  rw [View.set_slice]
  ext z
  simp only [View.setOn, Finset.mem_map]
  constructor
  · rintro ⟨x, hx, rfl⟩
    rw [mem_unit] at hx
    refine ⟨(Rect.unit (s := ⟨4, ![N, 36, 256, 256]⟩) o ![1, 36, 256, 256] inb).emb (Shape.reshapeEquiv h x), ?_, rfl⟩
    rw [Shape.reshapeEquiv_cons_one, mem_unit]
    have q0 := hx 0
    have q1 := hx 1
    have q2 := hx 2
    intro a
    fin_cases a
    · show o' 0 ≤ o 0 + 1 * 0 ∧ o 0 + 1 * 0 < o' 0 + 1
      omega
    · show o' 1 ≤ o 1 + 1 * (x 0).val ∧ o 1 + 1 * (x 0).val < o' 1 + n
      have : k ≤ (x 0).val ∧ (x 0).val < k + n := q0
      omega
    · show o' 2 ≤ o 2 + 1 * (x 1).val ∧ o 2 + 1 * (x 1).val < o' 2 + 256
      have : 0 ≤ (x 1).val ∧ (x 1).val < 0 + 256 := q1
      omega
    · show o' 3 ≤ o 3 + 1 * (x 2).val ∧ o 3 + 1 * (x 2).val < o' 3 + 256
      have : 0 ≤ (x 2).val ∧ (x 2).val < 0 + 256 := q2
      omega
  · rintro ⟨y, hy, rfl⟩
    rw [mem_unit] at hy
    have q0 : o' 0 ≤ (y 0).val ∧ (y 0).val < o' 0 + 1 := hy 0
    have q1 : o' 1 ≤ (y 1).val ∧ (y 1).val < o' 1 + n := hy 1
    have q2 : o' 2 ≤ (y 2).val ∧ (y 2).val < o' 2 + 256 := hy 2
    have q3 : o' 3 ≤ (y 3).val ∧ (y 3).val < o' 3 + 256 := hy 3
    have b1 : (y 1).val < 36 := (y 1).isLt
    refine ⟨fun | ⟨0, _⟩ => ⟨(y 1).val, b1⟩ | ⟨1, _⟩ => ⟨(y 2).val, (y 2).isLt⟩ | ⟨2, _⟩ => ⟨(y 3).val, (y 3).isLt⟩, ?_, ?_⟩
    · rw [mem_unit]
      intro a
      fin_cases a
      · show k ≤ (y 1).val ∧ (y 1).val < k + n
        omega
      · show 0 ≤ (y 2).val ∧ (y 2).val < 0 + 256
        omega
      · show 0 ≤ (y 3).val ∧ (y 3).val < 0 + 256
        omega
    · show v.emb ((Rect.unit (s := ⟨4, ![N, 36, 256, 256]⟩) o ![1, 36, 256, 256] inb).emb (Shape.reshapeEquiv h _)) = v.emb y
      congr 1
      rw [Shape.reshapeEquiv_cons_one]
      funext a
      apply Fin.ext
      fin_cases a
      · show o 0 + 1 * 0 = (y 0).val
        omega
      · show o 1 + 1 * (y 1).val = (y 1).val
        omega
      · show o 2 + 1 * (y 2).val = (y 2).val
        omega
      · show o 3 + 1 * (y 3).val = (y 3).val
        omega

/-- A channel run of a slot sits at the same elements whether it is indexed through the slot or sliced from the buffer
    directly. -/
theorem emb_slot {N : ℕ} (v : View sig κ sp ⟨4, ![N, 36, 256, 256]⟩ e) (o o' : Fin 4 → ℕ) (k n : ℕ)
    (inb : ∀ a, o a + (![1, 36, 256, 256] : Fin 4 → ℕ) a ≤ (⟨4, ![N, 36, 256, 256]⟩ : Shape).size a)
    (inb' : ∀ a, o' a + (![1, n, 256, 256] : Fin 4 → ℕ) a ≤ (⟨4, ![N, 36, 256, 256]⟩ : Shape).size a)
    (inbk : ∀ a, (![k, 0, 0] : Fin 3 → ℕ) a + (![n, 256, 256] : Fin 3 → ℕ) a ≤ (⟨3, ![36, 256, 256]⟩ : Shape).size a)
    (h : (⟨3, ![36, 256, 256]⟩ : Shape).numel = (⟨4, ![1, 36, 256, 256]⟩ : Shape).numel)
    (h' : (⟨3, ![n, 256, 256]⟩ : Shape).numel = (⟨4, ![1, n, 256, 256]⟩ : Shape).numel)
    (ho : o 1 = 0 ∧ o 2 = 0 ∧ o 3 = 0) (ho' : o' 0 = o 0 ∧ o' 1 = k ∧ o' 2 = 0 ∧ o' 3 = 0)
    (x : (⟨3, ![n, 256, 256]⟩ : Shape).Idx) :
    ((v.slice (Rect.unit (s := ⟨4, ![N, 36, 256, 256]⟩) o' ![1, n, 256, 256] inb')).reshape ⟨3, ![n, 256, 256]⟩ h').emb x
      = ((v.slice (Rect.unit (s := ⟨4, ![N, 36, 256, 256]⟩) o ![1, 36, 256, 256] inb)).reshape ⟨3, ![36, 256, 256]⟩ h).emb
          ((Rect.unit (s := ⟨3, ![36, 256, 256]⟩) ![k, 0, 0] ![n, 256, 256] inbk).emb x) := by
  obtain ⟨ho1, ho2, ho3⟩ := ho
  obtain ⟨h0', h1', h2', h3'⟩ := ho'
  show v.emb ((Rect.unit (s := ⟨4, ![N, 36, 256, 256]⟩) o' ![1, n, 256, 256] inb').emb (Shape.reshapeEquiv h' x))
    = v.emb ((Rect.unit (s := ⟨4, ![N, 36, 256, 256]⟩) o ![1, 36, 256, 256] inb).emb (Shape.reshapeEquiv h _))
  congr 1
  rw [Shape.reshapeEquiv_cons_one, Shape.reshapeEquiv_cons_one]
  funext a
  apply Fin.ext
  fin_cases a
  · show o' 0 + 1 * 0 = o 0 + 1 * 0
    omega
  · show o' 1 + 1 * (x 0).val = o 1 + 1 * (k + 1 * (x 0).val)
    omega
  · show o' 2 + 1 * (x 1).val = o 2 + 1 * (0 + 1 * (x 1).val)
    omega
  · show o' 3 + 1 * (x 2).val = o 3 + 1 * (0 + 1 * (x 2).val)
    omega

end Cert.KernelIdeal.Boxes

end
-- ==== Proof.Channel.lean ====
module

public import proofs.«01_k».proof.Proof.Gen.KernelIdeal.Skeleton
public import proofs.«01_k».proof.Proof.Boxes
public import Idealize.ShloMosaic.Lib.ValueLayout

/-! # What the kernel computes for one image

One grid point reads the 22 parameters and one image of 36 channels (each 256 × 256) and writes one image of 36 channels.
The definitions here give every channel of that image as a function of the parameters and of the image read, in the
kernel's own operations, at any interpretation of the float operations. -/

@[expose] public section

noncomputable section

namespace Cert.KernelIdeal.Channel

open Idealize.ShloMosaic
open Cert.KernelIdeal Cert.KernelIdeal.Gen

variable {F : FTy → Type} [FloatOps F] [Named F]

/-- A parameter lies inside the list of 22. -/
theorem inb_param (k : Fin 22) : ∀ a, (![k.val] : Fin 1 → ℕ) a + S1.size a ≤ S22.size a := by
  intro a
  fin_cases a
  show k.val + 1 ≤ 22
  omega

/-- A channel lies inside the image. -/
theorem inb_plane (ch : Fin 36) : ∀ a, (![ch.val, 0, 0] : Fin 3 → ℕ) a + S1x256x256.size a ≤ S36x256x256.size a := by
  intro a
  fin_cases a
  · show ch.val + 1 ≤ 36
    omega
  · show 0 + 256 ≤ 256
    omega
  · show 0 + 256 ≤ 256
    omega

/-- An array of one element is not empty. -/
theorem pos_S1 : 0 < S1.numel := numel1_S1.symm ▸ Nat.one_pos

/-- Parameter `k` of the list of 22. -/
def param (P : S22.Idx → Elt F .f32) (k : Fin 22) : Elt F .f32 :=
  P ((Rect.unit (s := S22) ![k.val] S1.size (inb_param k)).toLoadRect.idx (Shape.Idx.first pos_S1))

/-- Channel `ch` of an image, as the box `1 × 256 × 256` the kernel loads. -/
def chan (X : S36x256x256.Idx → Elt F .f32) (ch : Fin 36) : Vec F S1x256x256 .f32 :=
  fun z => X ((Rect.unit (s := S36x256x256) ![ch.val, 0, 0] S1x256x256.size (inb_plane ch)).toLoadRect.idx z)

/-- The scale `2 / log 2` times a parameter. -/
def scaled (v : Elt F .f32) : F .f32 := Scalar.mulf (Named.named κ "two_over_log2" 0x4038AA3B#32) v

/-- A channel plus its group's bias. -/
def shifted (x : Vec F S1x256x256 .f32) (b : Elt F .f32) : FVec F S256x256 .f32 :=
  addf (shapeCast S256x256 x shapeCasts_S1x256x256_S256x256) (broadcast S256x256 b)

/-- `a - a2 / (1 + 2 ^ (u * g))`, element by element. -/
def squash (u g : FVec F S256x256 .f32) (a a2 : Elt F .f32) : FVec F S256x256 .f32 :=
  subf (broadcast S256x256 a)
    (divf (broadcast S256x256 a2) (addf (broadcast S256x256 (Scalar.ofBits .f32 0x3F800000#32)) (exp2 (mulf u g))))

/-- An image with its first and last row repeated. -/
def padRows (t : FVec F S256x256 .f32) : FVec F S258x256 .f32 :=
  concatenate S258x256 0 [⟨S1x256, extractStridedSlice S1x256 ![0, 0] t slices_S256x256_o0_0_S1x256⟩, ⟨S256x256, t⟩,
    ⟨S1x256, extractStridedSlice S1x256 ![255, 0] t slices_S256x256_o255_0_S1x256⟩] concatenates_S1x256_S256x256_S1x256_S258x256_d0

/-- The columns one to the left, the first column standing in for the one before it. -/
def leftCols (t : FVec F S258x256 .f32) : FVec F S258x256 .f32 :=
  concatenate S258x256 1 [⟨S258x1, extractStridedSlice S258x1 ![0, 0] t slices_S258x256_o0_0_S258x1⟩,
    ⟨S258x255, extractStridedSlice S258x255 ![0, 0] t slices_S258x256_o0_0_S258x255⟩] concatenates_S258x1_S258x255_S258x256_d1

/-- The columns one to the right, the last column standing in for the one after it. -/
def rightCols (t : FVec F S258x256 .f32) : FVec F S258x256 .f32 :=
  concatenate S258x256 1 [⟨S258x255, extractStridedSlice S258x255 ![0, 1] t slices_S258x256_o0_1_S258x255⟩,
    ⟨S258x1, extractStridedSlice S258x1 ![0, 255] t slices_S258x256_o0_255_S258x1⟩] concatenates_S258x255_S258x1_S258x256_d1

/-- Three neighbouring columns added. -/
def colSum (t : FVec F S258x256 .f32) : FVec F S258x256 .f32 :=
  addf (addf (leftCols t) t) (rightCols t)

/-- Three neighbouring rows added. -/
def rowSum (t : FVec F S258x256 .f32) : FVec F S256x256 .f32 :=
  addf (addf (extractStridedSlice S256x256 ![0, 0] t slices_S258x256_o0_0_S256x256)
    (extractStridedSlice S256x256 ![1, 0] t slices_S258x256_o1_0_S256x256))
    (extractStridedSlice S256x256 ![2, 0] t slices_S258x256_o2_0_S256x256)

/-- The sum over the 3 × 3 neighbourhood of each element, edges repeated. -/
def boxSum (t : FVec F S256x256 .f32) : FVec F S256x256 .f32 := rowSum (colSum (padRows t))

/-- The sum of the absolute values of a group's shifted channels: channel `c0`, then the channels of the list. -/
def absSum (X : S36x256x256.Idx → Elt F .f32) (b : Elt F .f32) (c0 : Fin 36) (cs : List (Fin 36)) : FVec F S256x256 .f32 :=
  cs.foldl (fun t c => addf t (absf (shifted (chan X c) b))) (absf (shifted (chan X c0) b))

/-- `ag2 / (1 + s * ip)` where `s` is the neighbourhood sum of `t`. -/
def gain (t : FVec F S256x256 .f32) (ip : Elt F .f32) (ag2 : F .f32) : FVec F S256x256 .f32 :=
  divf (broadcast S256x256 ag2)
    (addf (broadcast S256x256 (Scalar.ofBits .f32 0x3F800000#32)) (mulf (boxSum t) (broadcast S256x256 ip)))

/-- The gain of the coupled group whose parameters start at `k` and whose channels are `c0` and the list `cs`. -/
def groupGain (P : S22.Idx → Elt F .f32) (X : S36x256x256.Idx → Elt F .f32) (kb ki kg : Fin 22) (c0 : Fin 36)
    (cs : List (Fin 36)) : FVec F S256x256 .f32 :=
  gain (absSum X (param P kb) c0 cs) (param P ki) (scaled (param P kg))

/-- Gain of channels 3 to 5. -/
def lowGain (P : S22.Idx → Elt F .f32) (X : S36x256x256.Idx → Elt F .f32) : FVec F S256x256 .f32 :=
  groupGain P X 4 6 7 3 [4, 5]

/-- Gain of channels 6 to 14. -/
def midGain (P : S22.Idx → Elt F .f32) (X : S36x256x256.Idx → Elt F .f32) : FVec F S256x256 .f32 :=
  groupGain P X 10 12 13 6 [7, 8, 9, 10, 11, 12, 13, 14]

/-- Gain of channels 15 to 35. -/
def highGain (P : S22.Idx → Elt F .f32) (X : S36x256x256.Idx → Elt F .f32) : FVec F S256x256 .f32 :=
  groupGain P X 16 18 19 15 [16, 17, 18, 19, 20, 21, 22, 23, 24, 25, 26, 27, 28, 29, 30, 31, 32, 33, 34, 35]

/-- Channel `ch` of the image written. -/
def outChan (P : S22.Idx → Elt F .f32) (X : S36x256x256.Idx → Elt F .f32) (ch : Fin 36) : FVec F S256x256 .f32 :=
  if ch.val < 3 then
    squash (shifted (chan X ch) (param P 0)) (broadcast S256x256 (scaled (param P 1))) (param P 2) (param P 3)
  else if ch.val < 6 then squash (shifted (chan X ch) (param P 4)) (lowGain P X) (param P 8) (param P 9)
  else if ch.val < 15 then squash (shifted (chan X ch) (param P 10)) (midGain P X) (param P 14) (param P 15)
  else squash (shifted (chan X ch) (param P 16)) (highGain P X) (param P 20) (param P 21)

/-- The coordinates of an element of a channel. -/
def hw (y : S36x256x256.Idx) : S256x256.Idx := fun | ⟨0, _⟩ => ⟨(y 1).val, (y 1).isLt⟩ | ⟨1, _⟩ => ⟨(y 2).val, (y 2).isLt⟩

/-- The whole image written. -/
def outImage (P : S22.Idx → Elt F .f32) (X : S36x256x256.Idx → Elt F .f32) (y : S36x256x256.Idx) : Elt F .f32 :=
  outChan P X (y 0) (hw y)

/-- A box `1 × 256 × 256` holding channel `ch` of the image agrees with the image where it is stored. -/
theorem piece_agrees (P : S22.Idx → Elt F .f32) (X : S36x256x256.Idx → Elt F .f32) (ch : Fin 36)
    (inb : ∀ a, (![ch.val, 0, 0] : Fin 3 → ℕ) a + S1x256x256.size a ≤ S36x256x256.size a) (w : FVec F S1x256x256 .f32)
    (hw : w = shapeCast S1x256x256 (outChan P X ch) shapeCasts_S256x256_S1x256x256) (x : S1x256x256.Idx) :
    w x = outImage P X ((Rect.unit (s := S36x256x256) ![ch.val, 0, 0] S1x256x256.size inb).emb x) := by
  subst hw
  have h0 : (x 0).val = 0 := by have h : (x 0).val < 1 := (x 0).isLt; omega
  have hc : ((Rect.unit (s := S36x256x256) ![ch.val, 0, 0] S1x256x256.size inb).emb x) 0 = ch := by
    apply Fin.ext
    show ch.val + 1 * (x 0).val = ch.val
    omega
  unfold outImage
  rw [hc]
  show outChan P X ch _ = outChan P X ch _
  congr 1
  refine Shape.reshapeEquiv_eq_of_rowMajor _ ?_
  rw [Shape.rowMajor_val_two, Shape.rowMajor_val_three]
  show (0 + 1 * (x 1).val) * 256 + (0 + 1 * (x 2).val) = ((x 0).val * 256 + (x 1).val) * 256 + (x 2).val
  omega

/-- A list of stores whose pieces are the given channels of the image, newest first. -/
inductive Stores (P : S22.Idx → Elt F .f32) (X : S36x256x256.Idx → Elt F .f32) :
    List (View.Piece (Elt F) S36x256x256 .f32) → List (Fin 36) → Prop
  | nil : Stores P X [] []
  | cons (ch : Fin 36) (inb : ∀ a, (![ch.val, 0, 0] : Fin 3 → ℕ) a + S1x256x256.size a ≤ S36x256x256.size a)
      (w : FVec F S1x256x256 .f32) (hw : w = shapeCast S1x256x256 (outChan P X ch) shapeCasts_S256x256_S1x256x256)
      {L : List (View.Piece (Elt F) S36x256x256 .f32)} {cs : List (Fin 36)} (h : Stores P X L cs) :
      Stores P X (⟨Rect.unit (s := S36x256x256) ![ch.val, 0, 0] S1x256x256.size inb, w⟩ :: L) (ch :: cs)

theorem Stores.agrees {P : S22.Idx → Elt F .f32} {X : S36x256x256.Idx → Elt F .f32}
    {L : List (View.Piece (Elt F) S36x256x256 .f32)} {cs : List (Fin 36)} (h : Stores P X L cs) :
    ∀ p ∈ L, ∀ x : p.1.shape.Idx, p.2 x = outImage P X (p.1.emb x) := by
  induction h with
  | nil => intro p hp; exact absurd hp List.not_mem_nil
  | cons ch inb w hw h ih =>
    intro p hp
    rcases List.mem_cons.mp hp with rfl | hp
    · exact piece_agrees P X ch inb w hw
    · exact ih p hp

theorem Stores.covers {P : S22.Idx → Elt F .f32} {X : S36x256x256.Idx → Elt F .f32}
    {L : List (View.Piece (Elt F) S36x256x256 .f32)} {cs : List (Fin 36)} (h : Stores P X L cs) (y : S36x256x256.Idx)
    (hy : (y 0 : Fin 36) ∈ cs) : ∃ p ∈ L, y ∈ p.1.set := by
  induction h with
  | nil => exact absurd hy List.not_mem_nil
  | cons ch inb w hw h ih =>
    rcases List.mem_cons.mp hy with hc | hy
    · refine ⟨_, List.mem_cons_self, ?_⟩
      rw [Boxes.mem_unit]
      intro a
      fin_cases a
      · show ch.val ≤ (y 0 : Fin 36).val ∧ (y 0 : Fin 36).val < ch.val + 1
        rw [hc]; omega
      · have h1 : (y 1).val < 256 := (y 1).isLt
        show 0 ≤ (y 1).val ∧ (y 1).val < 0 + 256
        omega
      · have h2 : (y 2).val < 256 := (y 2).isLt
        show 0 ≤ (y 2).val ∧ (y 2).val < 0 + 256
        omega
    · obtain ⟨p, hp, hm⟩ := ih hy
      exact ⟨p, List.mem_cons_of_mem _ hp, hm⟩

/-- After those stores the view reads the image's values at their channels, whatever it held before. -/
theorem Stores.read {P : S22.Idx → Elt F .f32} {X : S36x256x256.Idx → Elt F .f32}
    {L : List (View.Piece (Elt F) S36x256x256 .f32)} {cs : List (Fin 36)} (h : Stores P X L cs) {κ : Kind} {sp : Space}
    (v : View sig κ sp S36x256x256 .f32) (f : v.ty.Contents (Elt F)) (y : S36x256x256.Idx) (hy : (y 0 : Fin 36) ∈ cs) :
    v.read (Elt F) (v.writes (Elt F) f L) y = outImage P X y :=
  v.read_writes_apply_of_pieces f (outImage P X) L h.agrees y (h.covers y hy)

/-- A piece written whole reads back what was written. -/
theorem read_whole_store {κ : Kind} {sp : Space} {S : Shape} (v : View sig κ sp S .f32) (g : v.ty.Contents (Elt F))
    (w : S.Idx → Elt F .f32) (x : S.Idx) : v.read (Elt F) (v.writes (Elt F) g [⟨Rect.whole S, w⟩]) x = w x :=
  View.read_writes_apply_of_pieces v g w [⟨Rect.whole S, w⟩] (by
    intro p hp y
    obtain rfl := List.mem_singleton.mp hp
    show w y = w ((Rect.whole S).emb y)
    rw [Rect.emb_whole_apply]) x ⟨_, List.mem_singleton_self _, by rw [Rect.set_whole]; exact Finset.mem_univ _⟩

end Cert.KernelIdeal.Channel

end
-- ==== Proof.Views.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.Channel

@[expose] public section

set_option maxRecDepth 16384

/-! # The pieces of the buffers one grid point names -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

/-- The buffer the images are read into, two slots. -/
abbrev scX : Memref sig .tc .vmem S2x36x256x256 .f32 := Memref.whole cc0_scratch0
abbrev scO : Memref sig .tc .vmem S2x36x256x256 .f32 := Memref.whole cc0_scratch1
abbrev hbX : Memref sig .tc .hbm S8x36x256x256 .f32 := Memref.whole main_v20
abbrev hbO : Memref sig .tc .hbm S8x36x256x256 .f32 := Memref.whole main_v21
abbrev BufOf (c : Dev nD) {sp : Space} {S : Shape} {e : EltTy} (M : Memref sig .tc sp S e) : Type := Buf (Elt F) (M.view.loc (c : Thread nD τ))

/-- The slot of the reading buffer of grid point `i`. -/
abbrev xs (i : grid0.Coords) := (scX.slice (Rect.unit (s := S2x36x256x256) (k0_off5 i) S1x36x256x256.size (k0_off5_inb i)) (fun _ => rfl)).squeeze S36x256x256 squeezes_S1x36x256x256_S36x256x256
/-- The slot of the writing buffer of grid point `i`. -/
abbrev os (i : grid0.Coords) := (scO.slice (Rect.unit (s := S2x36x256x256) (k0_off5 i) S1x36x256x256.size (k0_off5_inb i)) (fun _ => rfl)).squeeze S36x256x256 squeezes_S1x36x256x256_S36x256x256
/-- A run of channels of the result at grid point `i`. -/
abbrev pc0 (i : grid0.Coords) := (hbO.slice (Rect.unit (s := S8x36x256x256) (k0_off23 i) S1x6x256x256.size (k0_off23_inb i)) (fun _ => rfl)).squeeze S6x256x256 squeezes_S1x6x256x256_S6x256x256
/-- The same run in the writing slot. -/
abbrev ti0 (i : grid0.Coords) := (scO.slice (Rect.unit (s := S2x36x256x256) (k0_off24 i) S1x6x256x256.size (k0_off24_inb i)) (fun _ => rfl)).squeeze S6x256x256 squeezes_S1x6x256x256_S6x256x256
/-- The semaphore its copy signals. -/
abbrev wc0 (i : grid0.Coords) := ((cc0_scratch3.slice (Rect.unit (s := S2x5) (k0_off22 i) S1x1.size (k0_off22_inb i))).squeeze S_ squeezes_S1x1_S_)
theorem inbW0 : ∀ a, (![0, 0, 0] : Fin 3 → ℕ) a + (![6, 256, 256] : Fin 3 → ℕ) a ≤ S36x256x256.size a := by intro a; fin_cases a <;> decide
/-- The run of channels within a slot. -/
abbrev wr0 : Rect S36x256x256 := Rect.unit (s := S36x256x256) ![0, 0, 0] ![6, 256, 256] inbW0
theorem win0 (i : grid0.Coords) : (os i).view.setOn (wr0).set = (ti0 i).view.set := by
  refine (Boxes.setOn_slot (View.whole cc0_scratch1) (k0_off5 i) (k0_off24 i) 0 6 (k0_off5_inb i) (k0_off24_inb i) inbW0 _ ⟨rfl, rfl, rfl⟩ ⟨rfl, rfl, rfl, rfl⟩).trans ?_
  exact (View.set_reshape _ _).symm
theorem toTile0 (c : Dev nD) (i : grid0.Coords) (f : BufOf (F := F) c (os i)) :
    ((os i).view.loc (c : Thread nD τ) ↦[(os i).view.setOn (wr0).set]{fullShare} f : sProp 𝕄)
      ⊢ ((ti0 i).view.loc (c : Thread nD τ) ↦[(ti0 i).view.set]{fullShare} f) := by
  rw [win0]
/-- A run of channels of the result at grid point `i`. -/
abbrev pc1 (i : grid0.Coords) := (hbO.slice (Rect.unit (s := S8x36x256x256) (k0_off26 i) S1x9x256x256.size (k0_off26_inb i)) (fun _ => rfl)).squeeze S9x256x256 squeezes_S1x9x256x256_S9x256x256
/-- The same run in the writing slot. -/
abbrev ti1 (i : grid0.Coords) := (scO.slice (Rect.unit (s := S2x36x256x256) (k0_off27 i) S1x9x256x256.size (k0_off27_inb i)) (fun _ => rfl)).squeeze S9x256x256 squeezes_S1x9x256x256_S9x256x256
/-- The semaphore its copy signals. -/
abbrev wc1 (i : grid0.Coords) := ((cc0_scratch3.slice (Rect.unit (s := S2x5) (k0_off25 i) S1x1.size (k0_off25_inb i))).squeeze S_ squeezes_S1x1_S_)
theorem inbW1 : ∀ a, (![6, 0, 0] : Fin 3 → ℕ) a + (![9, 256, 256] : Fin 3 → ℕ) a ≤ S36x256x256.size a := by intro a; fin_cases a <;> decide
/-- The run of channels within a slot. -/
abbrev wr1 : Rect S36x256x256 := Rect.unit (s := S36x256x256) ![6, 0, 0] ![9, 256, 256] inbW1
theorem win1 (i : grid0.Coords) : (os i).view.setOn (wr1).set = (ti1 i).view.set := by
  refine (Boxes.setOn_slot (View.whole cc0_scratch1) (k0_off5 i) (k0_off27 i) 6 9 (k0_off5_inb i) (k0_off27_inb i) inbW1 _ ⟨rfl, rfl, rfl⟩ ⟨rfl, rfl, rfl, rfl⟩).trans ?_
  exact (View.set_reshape _ _).symm
theorem toTile1 (c : Dev nD) (i : grid0.Coords) (f : BufOf (F := F) c (os i)) :
    ((os i).view.loc (c : Thread nD τ) ↦[(os i).view.setOn (wr1).set]{fullShare} f : sProp 𝕄)
      ⊢ ((ti1 i).view.loc (c : Thread nD τ) ↦[(ti1 i).view.set]{fullShare} f) := by
  rw [win1]
/-- A run of channels of the result at grid point `i`. -/
abbrev pc2 (i : grid0.Coords) := (hbO.slice (Rect.unit (s := S8x36x256x256) (k0_off29 i) S1x7x256x256.size (k0_off29_inb i)) (fun _ => rfl)).squeeze S7x256x256 squeezes_S1x7x256x256_S7x256x256
/-- The same run in the writing slot. -/
abbrev ti2 (i : grid0.Coords) := (scO.slice (Rect.unit (s := S2x36x256x256) (k0_off30 i) S1x7x256x256.size (k0_off30_inb i)) (fun _ => rfl)).squeeze S7x256x256 squeezes_S1x7x256x256_S7x256x256
/-- The semaphore its copy signals. -/
abbrev wc2 (i : grid0.Coords) := ((cc0_scratch3.slice (Rect.unit (s := S2x5) (k0_off28 i) S1x1.size (k0_off28_inb i))).squeeze S_ squeezes_S1x1_S_)
theorem inbW2 : ∀ a, (![15, 0, 0] : Fin 3 → ℕ) a + (![7, 256, 256] : Fin 3 → ℕ) a ≤ S36x256x256.size a := by intro a; fin_cases a <;> decide
/-- The run of channels within a slot. -/
abbrev wr2 : Rect S36x256x256 := Rect.unit (s := S36x256x256) ![15, 0, 0] ![7, 256, 256] inbW2
theorem win2 (i : grid0.Coords) : (os i).view.setOn (wr2).set = (ti2 i).view.set := by
  refine (Boxes.setOn_slot (View.whole cc0_scratch1) (k0_off5 i) (k0_off30 i) 15 7 (k0_off5_inb i) (k0_off30_inb i) inbW2 _ ⟨rfl, rfl, rfl⟩ ⟨rfl, rfl, rfl, rfl⟩).trans ?_
  exact (View.set_reshape _ _).symm
theorem toTile2 (c : Dev nD) (i : grid0.Coords) (f : BufOf (F := F) c (os i)) :
    ((os i).view.loc (c : Thread nD τ) ↦[(os i).view.setOn (wr2).set]{fullShare} f : sProp 𝕄)
      ⊢ ((ti2 i).view.loc (c : Thread nD τ) ↦[(ti2 i).view.set]{fullShare} f) := by
  rw [win2]
/-- A run of channels of the result at grid point `i`. -/
abbrev pc3 (i : grid0.Coords) := (hbO.slice (Rect.unit (s := S8x36x256x256) (k0_off32 i) S1x7x256x256.size (k0_off32_inb i)) (fun _ => rfl)).squeeze S7x256x256 squeezes_S1x7x256x256_S7x256x256
/-- The same run in the writing slot. -/
abbrev ti3 (i : grid0.Coords) := (scO.slice (Rect.unit (s := S2x36x256x256) (k0_off33 i) S1x7x256x256.size (k0_off33_inb i)) (fun _ => rfl)).squeeze S7x256x256 squeezes_S1x7x256x256_S7x256x256
/-- The semaphore its copy signals. -/
abbrev wc3 (i : grid0.Coords) := ((cc0_scratch3.slice (Rect.unit (s := S2x5) (k0_off31 i) S1x1.size (k0_off31_inb i))).squeeze S_ squeezes_S1x1_S_)
theorem inbW3 : ∀ a, (![22, 0, 0] : Fin 3 → ℕ) a + (![7, 256, 256] : Fin 3 → ℕ) a ≤ S36x256x256.size a := by intro a; fin_cases a <;> decide
/-- The run of channels within a slot. -/
abbrev wr3 : Rect S36x256x256 := Rect.unit (s := S36x256x256) ![22, 0, 0] ![7, 256, 256] inbW3
theorem win3 (i : grid0.Coords) : (os i).view.setOn (wr3).set = (ti3 i).view.set := by
  refine (Boxes.setOn_slot (View.whole cc0_scratch1) (k0_off5 i) (k0_off33 i) 22 7 (k0_off5_inb i) (k0_off33_inb i) inbW3 _ ⟨rfl, rfl, rfl⟩ ⟨rfl, rfl, rfl, rfl⟩).trans ?_
  exact (View.set_reshape _ _).symm
theorem toTile3 (c : Dev nD) (i : grid0.Coords) (f : BufOf (F := F) c (os i)) :
    ((os i).view.loc (c : Thread nD τ) ↦[(os i).view.setOn (wr3).set]{fullShare} f : sProp 𝕄)
      ⊢ ((ti3 i).view.loc (c : Thread nD τ) ↦[(ti3 i).view.set]{fullShare} f) := by
  rw [win3]
/-- A run of channels of the result at grid point `i`. -/
abbrev pc4 (i : grid0.Coords) := (hbO.slice (Rect.unit (s := S8x36x256x256) (k0_off35 i) S1x7x256x256.size (k0_off35_inb i)) (fun _ => rfl)).squeeze S7x256x256 squeezes_S1x7x256x256_S7x256x256
/-- The same run in the writing slot. -/
abbrev ti4 (i : grid0.Coords) := (scO.slice (Rect.unit (s := S2x36x256x256) (k0_off36 i) S1x7x256x256.size (k0_off36_inb i)) (fun _ => rfl)).squeeze S7x256x256 squeezes_S1x7x256x256_S7x256x256
/-- The semaphore its copy signals. -/
abbrev wc4 (i : grid0.Coords) := ((cc0_scratch3.slice (Rect.unit (s := S2x5) (k0_off34 i) S1x1.size (k0_off34_inb i))).squeeze S_ squeezes_S1x1_S_)
theorem inbW4 : ∀ a, (![29, 0, 0] : Fin 3 → ℕ) a + (![7, 256, 256] : Fin 3 → ℕ) a ≤ S36x256x256.size a := by intro a; fin_cases a <;> decide
/-- The run of channels within a slot. -/
abbrev wr4 : Rect S36x256x256 := Rect.unit (s := S36x256x256) ![29, 0, 0] ![7, 256, 256] inbW4
theorem win4 (i : grid0.Coords) : (os i).view.setOn (wr4).set = (ti4 i).view.set := by
  refine (Boxes.setOn_slot (View.whole cc0_scratch1) (k0_off5 i) (k0_off36 i) 29 7 (k0_off5_inb i) (k0_off36_inb i) inbW4 _ ⟨rfl, rfl, rfl⟩ ⟨rfl, rfl, rfl, rfl⟩).trans ?_
  exact (View.set_reshape _ _).symm
theorem toTile4 (c : Dev nD) (i : grid0.Coords) (f : BufOf (F := F) c (os i)) :
    ((os i).view.loc (c : Thread nD τ) ↦[(os i).view.setOn (wr4).set]{fullShare} f : sProp 𝕄)
      ⊢ ((ti4 i).view.loc (c : Thread nD τ) ↦[(ti4 i).view.set]{fullShare} f) := by
  rw [win4]

/-- The run's elements, indexed through the slot. -/
theorem emb0 (i : grid0.Coords) (x : S6x256x256.Idx) : (ti0 i).view.emb x = (os i).view.emb (wr0.emb x) :=
  Boxes.emb_slot (View.whole cc0_scratch1) (k0_off5 i) (k0_off24 i) 0 6 (k0_off5_inb i) (k0_off24_inb i) inbW0 _ _ ⟨rfl, rfl, rfl⟩ ⟨rfl, rfl, rfl, rfl⟩ x
/-- The run's elements, indexed through the slot. -/
theorem emb1 (i : grid0.Coords) (x : S9x256x256.Idx) : (ti1 i).view.emb x = (os i).view.emb (wr1.emb x) :=
  Boxes.emb_slot (View.whole cc0_scratch1) (k0_off5 i) (k0_off27 i) 6 9 (k0_off5_inb i) (k0_off27_inb i) inbW1 _ _ ⟨rfl, rfl, rfl⟩ ⟨rfl, rfl, rfl, rfl⟩ x
/-- The run's elements, indexed through the slot. -/
theorem emb2 (i : grid0.Coords) (x : S7x256x256.Idx) : (ti2 i).view.emb x = (os i).view.emb (wr2.emb x) :=
  Boxes.emb_slot (View.whole cc0_scratch1) (k0_off5 i) (k0_off30 i) 15 7 (k0_off5_inb i) (k0_off30_inb i) inbW2 _ _ ⟨rfl, rfl, rfl⟩ ⟨rfl, rfl, rfl, rfl⟩ x
/-- The run's elements, indexed through the slot. -/
theorem emb3 (i : grid0.Coords) (x : S7x256x256.Idx) : (ti3 i).view.emb x = (os i).view.emb (wr3.emb x) :=
  Boxes.emb_slot (View.whole cc0_scratch1) (k0_off5 i) (k0_off33 i) 22 7 (k0_off5_inb i) (k0_off33_inb i) inbW3 _ _ ⟨rfl, rfl, rfl⟩ ⟨rfl, rfl, rfl, rfl⟩ x
/-- The run's elements, indexed through the slot. -/
theorem emb4 (i : grid0.Coords) (x : S7x256x256.Idx) : (ti4 i).view.emb x = (os i).view.emb (wr4.emb x) :=
  Boxes.emb_slot (View.whole cc0_scratch1) (k0_off5 i) (k0_off36 i) 29 7 (k0_off5_inb i) (k0_off36_inb i) inbW4 _ _ ⟨rfl, rfl, rfl⟩ ⟨rfl, rfl, rfl, rfl⟩ x

end Cert.KernelIdeal.Ring

end
-- ==== Proof.Phases.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.Views

@[expose] public section

set_option maxRecDepth 16384

/-! # A grid point in phases: what each start or wait needs and leaves -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

/-- The condition under which a point starts the first image's copy: it is the first. -/
def cond1 (i : grid0.Coords) : BitVec 1 :=
  Scalar.cmpi .ne (Scalar.extui (Scalar.cmpi .eq (BitVec.ofNat 32 (i 0).val) 0#32)) 0#32

/-- The first point's copy of the first image into its slot. -/
def startP (i : grid0.Coords) : Prog (TpuEff nD τ sig (Elt F) Λ₀ .tc) PUnit := do
  if k0_h1 : cond1 i = 1#1 then do
    let v1089 : DmaSems sig S1 := cc0_scratch2.slice (Rect.unit (s := S2) ![0] S1.size inb_S2_S1_0)
    let v1090 : DmaSems sig S_ := v1089.squeeze S_ squeezes_S1_S_
    let v1091 : Memref sig .tc .vmem S1x36x256x256 .f32 := scX.slice (Rect.unit (s := S2x36x256x256) ![0, 0, 0, 0] S1x36x256x256.size inb_S2x36x256x256_S1x36x256x256_0_0_0_0) (fun _ => rfl)
    let v1092 : Memref sig .tc .vmem S36x256x256 .f32 := v1091.squeeze S36x256x256 squeezes_S1x36x256x256_S36x256x256
    let v1093 : Memref sig .tc .hbm S1x36x256x256 .f32 := hbX.slice (Rect.unit (s := S8x36x256x256) ![0, 0, 0, 0] S1x36x256x256.size inb_S8x36x256x256_S1x36x256x256_0_0_0_0) (fun _ => rfl)
    let v1094 : Memref sig .tc .hbm S36x256x256 .f32 := v1093.squeeze S36x256x256 squeezes_S1x36x256x256_S36x256x256
    Prog.lift (.enqueueDma v1094 (.here v1092) (.dma v1090.sem) ((View.wordExact_bits rfl).reshape _ _) ((View.wordExact_bits rfl).reshape _ _) ⟨Or.inl rfl, trivial⟩)
    pure ⟨⟩
  else do
    pure ⟨⟩

/-- The copy of the next point's image into the other slot. -/
def prefetchP (i : grid0.Coords) : Prog (TpuEff nD τ sig (Elt F) Λ₀ .tc) PUnit := do
  if k0_h2 : k0_cond2 i = 1#1 then do
    let v1090 : DmaSems sig S1 := cc0_scratch2.slice (Rect.unit (s := S2) (k0_off1 i) S1.size (k0_off1_inb i k0_h2))
    let v1091 : DmaSems sig S_ := v1090.squeeze S_ squeezes_S1_S_
    let v1092 : Memref sig .tc .vmem S1x36x256x256 .f32 := scX.slice (Rect.unit (s := S2x36x256x256) (k0_off2 i) S1x36x256x256.size (k0_off2_inb i k0_h2)) (fun _ => rfl)
    let v1093 : Memref sig .tc .vmem S36x256x256 .f32 := v1092.squeeze S36x256x256 squeezes_S1x36x256x256_S36x256x256
    let v1094 : Memref sig .tc .hbm S1x36x256x256 .f32 := hbX.slice (Rect.unit (s := S8x36x256x256) (k0_off3 i) S1x36x256x256.size (k0_off3_inb i k0_h2)) (fun _ => rfl)
    let v1095 : Memref sig .tc .hbm S36x256x256 .f32 := v1094.squeeze S36x256x256 squeezes_S1x36x256x256_S36x256x256
    Prog.lift (.enqueueDma v1095 (.here v1093) (.dma v1091.sem) ((View.wordExact_bits rfl).reshape _ _) ((View.wordExact_bits rfl).reshape _ _) ⟨Or.inl rfl, trivial⟩)
    pure ⟨⟩
  else do
    pure ⟨⟩

/-- The wait for this point's image. -/
def awaitP (i : grid0.Coords) : Prog (TpuEff nD τ sig (Elt F) Λ₀ .tc) PUnit := do
  let v10 : DmaSems sig S1 := cc0_scratch2.slice (Rect.unit (s := S2) (k0_off4 i) S1.size (k0_off4_inb i))
  let v11 : DmaSems sig S_ := v10.squeeze S_ squeezes_S1_S_
  let v12 : Memref sig .tc .vmem S1x36x256x256 .f32 := scX.slice (Rect.unit (s := S2x36x256x256) (k0_off5 i) S1x36x256x256.size (k0_off5_inb i)) (fun _ => rfl)
  let v13 : Memref sig .tc .vmem S36x256x256 .f32 := v12.squeeze S36x256x256 squeezes_S1x36x256x256_S36x256x256
  let v14 : Memref sig .tc .hbm S1x36x256x256 .f32 := hbX.slice (Rect.unit (s := S8x36x256x256) (k0_off6 i) S1x36x256x256.size (k0_off6_inb i)) (fun _ => rfl)
  let v15 : Memref sig .tc .hbm S36x256x256 .f32 := v14.squeeze S36x256x256 squeezes_S1x36x256x256_S36x256x256
  Prog.lift (.waitDma2 v11.sem v15 v13 ((View.wordExact_bits rfl).reshape _ _) ((View.wordExact_bits rfl).reshape _ _))

/-- The waits for the copies out of two points before. -/
def awaitOldP (i : grid0.Coords) (arg1 : Memref sig .tc .smem S22 .f32) (harg1 : arg1.IsWhole) : Prog (TpuEff nD τ sig (Elt F) Λ₀ .tc) PUnit := do
  if k0_h3 : k0_cond3 i = 1#1 then do
    k0_part1_skel i arg1 harg1 hbX (Memref.isWhole_whole _) hbO (Memref.isWhole_whole _) scX (Memref.isWhole_whole _) scO (Memref.isWhole_whole _) cc0_scratch2 cc0_scratch3 (BitVec.ofNat 32 (i 0).val) k0_h3
    let v1115 : Memref sig .tc .vmem S1x7x256x256 .f32 := scO.slice (Rect.unit (s := S2x36x256x256) (k0_off18 i) S1x7x256x256.size (k0_off18_inb i k0_h3)) (fun _ => rfl)
    let v1116 : Memref sig .tc .vmem S7x256x256 .f32 := v1115.squeeze S7x256x256 squeezes_S1x7x256x256_S7x256x256
    let v1111 : DmaSems sig S1x1 := cc0_scratch3.slice (Rect.unit (s := S2x5) (k0_off16 i) S1x1.size (k0_off16_inb i k0_h3))
    let v1112 : DmaSems sig S_ := v1111.squeeze S_ squeezes_S1x1_S_
    let v1113 : Memref sig .tc .hbm S1x7x256x256 .f32 := hbO.slice (Rect.unit (s := S8x36x256x256) (k0_off17 i) S1x7x256x256.size (k0_off17_inb i k0_h3)) (fun _ => rfl)
    let v1114 : Memref sig .tc .hbm S7x256x256 .f32 := v1113.squeeze S7x256x256 squeezes_S1x7x256x256_S7x256x256
    Prog.lift (.waitDma2 v1112.sem v1116 v1114 ((View.wordExact_bits rfl).reshape _ _) ((View.wordExact_bits rfl).reshape _ _))
    let v1118 : DmaSems sig S1x1 := cc0_scratch3.slice (Rect.unit (s := S2x5) (k0_off19 i) S1x1.size (k0_off19_inb i k0_h3))
    let v1119 : DmaSems sig S_ := v1118.squeeze S_ squeezes_S1x1_S_
    let v1120 : Memref sig .tc .hbm S1x7x256x256 .f32 := hbO.slice (Rect.unit (s := S8x36x256x256) (k0_off20 i) S1x7x256x256.size (k0_off20_inb i k0_h3)) (fun _ => rfl)
    let v1121 : Memref sig .tc .hbm S7x256x256 .f32 := v1120.squeeze S7x256x256 squeezes_S1x7x256x256_S7x256x256
    let v1122 : Memref sig .tc .vmem S1x7x256x256 .f32 := scO.slice (Rect.unit (s := S2x36x256x256) (k0_off21 i) S1x7x256x256.size (k0_off21_inb i k0_h3)) (fun _ => rfl)
    let v1123 : Memref sig .tc .vmem S7x256x256 .f32 := v1122.squeeze S7x256x256 squeezes_S1x7x256x256_S7x256x256
    Prog.lift (.waitDma2 v1119.sem v1123 v1121 ((View.wordExact_bits rfl).reshape _ _) ((View.wordExact_bits rfl).reshape _ _))
    pure ⟨⟩
  else do
    pure ⟨⟩

/-- The last point's waits for its own copies out and those of the point before. -/
def finishP (i : grid0.Coords) (arg1 : Memref sig .tc .smem S22 .f32) (harg1 : arg1.IsWhole) : Prog (TpuEff nD τ sig (Elt F) Λ₀ .tc) PUnit := do
  if k0_h4 : k0_cond4 i = 1#1 then do
    k0_part2_skel i arg1 harg1 hbX (Memref.isWhole_whole _) hbO (Memref.isWhole_whole _) scX (Memref.isWhole_whole _) scO (Memref.isWhole_whole _) cc0_scratch2 cc0_scratch3 (BitVec.ofNat 32 (i 0).val) k0_h4
    k0_part3_skel i arg1 harg1 hbX (Memref.isWhole_whole _) hbO (Memref.isWhole_whole _) scX (Memref.isWhole_whole _) scO (Memref.isWhole_whole _) cc0_scratch2 cc0_scratch3 (BitVec.ofNat 32 (i 0).val) k0_h4
    let v1141 : DmaSems sig S1x1 := cc0_scratch3.slice (Rect.unit (s := S2x5) (k0_off61 i) S1x1.size (k0_off61_inb i k0_h4))
    let v1142 : DmaSems sig S_ := v1141.squeeze S_ squeezes_S1x1_S_
    let v1143 : Memref sig .tc .hbm S1x7x256x256 .f32 := hbO.slice (Rect.unit (s := S8x36x256x256) (k0_off62 i) S1x7x256x256.size (k0_off62_inb i k0_h4)) (fun _ => rfl)
    let v1144 : Memref sig .tc .hbm S7x256x256 .f32 := v1143.squeeze S7x256x256 squeezes_S1x7x256x256_S7x256x256
    let v1145 : Memref sig .tc .vmem S1x7x256x256 .f32 := scO.slice (Rect.unit (s := S2x36x256x256) (k0_off63 i) S1x7x256x256.size (k0_off63_inb i k0_h4)) (fun _ => rfl)
    let v1146 : Memref sig .tc .vmem S7x256x256 .f32 := v1145.squeeze S7x256x256 squeezes_S1x7x256x256_S7x256x256
    Prog.lift (.waitDma2 v1142.sem v1146 v1144 ((View.wordExact_bits rfl).reshape _ _) ((View.wordExact_bits rfl).reshape _ _))
    let v1148 : DmaSems sig S1x1 := cc0_scratch3.slice (Rect.unit (s := S2x5) (k0_off64 i) S1x1.size (k0_off64_inb i k0_h4))
    let v1149 : DmaSems sig S_ := v1148.squeeze S_ squeezes_S1x1_S_
    let v1150 : Memref sig .tc .hbm S1x7x256x256 .f32 := hbO.slice (Rect.unit (s := S8x36x256x256) (k0_off65 i) S1x7x256x256.size (k0_off65_inb i k0_h4)) (fun _ => rfl)
    let v1151 : Memref sig .tc .hbm S7x256x256 .f32 := v1150.squeeze S7x256x256 squeezes_S1x7x256x256_S7x256x256
    let v1152 : Memref sig .tc .vmem S1x7x256x256 .f32 := scO.slice (Rect.unit (s := S2x36x256x256) (k0_off66 i) S1x7x256x256.size (k0_off66_inb i k0_h4)) (fun _ => rfl)
    let v1153 : Memref sig .tc .vmem S7x256x256 .f32 := v1152.squeeze S7x256x256 squeezes_S1x7x256x256_S7x256x256
    Prog.lift (.waitDma2 v1149.sem v1153 v1151 ((View.wordExact_bits rfl).reshape _ _) ((View.wordExact_bits rfl).reshape _ _))
    pure ⟨⟩
  else do
    pure ⟨⟩
  pure ⟨⟩

/-- The first parameters and the first channel, loaded. -/
def loadP (i : grid0.Coords) (arg1 : Memref sig .tc .smem S22 .f32) (harg1 : arg1.IsWhole) : Prog (TpuEff nD τ sig (Elt F) Λ₀ .tc) (Σ' (arg0 : BitVec 32) (v19 : Elt F .f32) (v21 : F .f32) (v22 : Elt F .f32) (v23 : Elt F .f32), FVec F S256x256 .f32) := do
  let v19 : Elt F .f32 ← smemLoad arg1 (Rect.unit (s := S22) ![0] S1.size inb_S22_S1_0) numel1_S1 rfl
  let v20 : Elt F .f32 ← smemLoad arg1 (Rect.unit (s := S22) ![1] S1.size inb_S22_S1_1) numel1_S1 rfl
  let v22 : Elt F .f32 ← smemLoad arg1 (Rect.unit (s := S22) ![2] S1.size inb_S22_S1_2) numel1_S1 rfl
  let v23 : Elt F .f32 ← smemLoad arg1 (Rect.unit (s := S22) ![3] S1.size inb_S22_S1_3) numel1_S1 rfl
  let v24 : Memref sig .tc .vmem S1x36x256x256 .f32 := scX.slice (Rect.unit (s := S2x36x256x256) (k0_off5 i) S1x36x256x256.size (k0_off5_inb i)) (fun _ => rfl)
  let v25 : Memref sig .tc .vmem S36x256x256 .f32 := v24.squeeze S36x256x256 squeezes_S1x36x256x256_S36x256x256
  let v26 : Vec F S1x256x256 .f32 ← Prog.lift (.load v25 (Rect.unit (s := S36x256x256) ![0, 0, 0] S1x256x256.size inb_S36x256x256_S1x256x256_0_0_0).toLoadRect (View.loadsAt_vmem h_S1x256x256))
  pure ⟨BitVec.ofNat 32 (i 0).val, v19, k0_pay1 v20, v22, v23, k0_pay2 v26⟩

set_option maxRecDepth 65536 in
/-- The first stretch of the printed body, as its phases in order. -/
theorem part4_eq (i : grid0.Coords) (arg1 : Memref sig .tc .smem S22 .f32) (harg1 : arg1.IsWhole) :
    k0_part4 (F := F) i arg1 harg1 hbX (Memref.isWhole_whole _) hbO (Memref.isWhole_whole _) scX (Memref.isWhole_whole _) scO (Memref.isWhole_whole _) cc0_scratch2 cc0_scratch3
      = (do startP i; prefetchP i; awaitP i; awaitOldP i arg1 harg1; loadP i arg1 harg1) := by
  rw [k0_part4_eq_skeleton]
  unfold k0_part4_skel startP prefetchP awaitP awaitOldP loadP
  by_cases h1 : cond1 i = 1#1 <;> by_cases h2 : k0_cond2 i = 1#1 <;> by_cases h3 : k0_cond3 i = 1#1 <;>
    unfold cond1 at h1 ⊢ <;> simp only [h1, h2, h3, ↓reduceDIte] <;> rfl

/-- What a copy of an image delivers: the slot reading as the source does, and the source back. -/
def image (c : Dev nD) (sl : Memref sig .tc .vmem S36x256x256 .f32) (src : Memref sig .tc .hbm S36x256x256 .f32)
    (q : PosShare TreeShare) (fx : BufOf (F := F) c src) : sProp 𝕄 :=
  iprop((∃ f : BufOf (F := F) c sl, ⌜sl.view.read (Elt F) f = src.view.read (Elt F) fx⌝ ∗ (sl.view.loc (c : Thread nD τ) ↦[sl.view.set]{fullShare} f))
    ∗ (src.view.loc (c : Thread nD τ) ↦[src.view.set]{q} fx))

/-- A slot written whole with what the source reads. -/
theorem image_of (c : Dev nD) (sl : Memref sig .tc .vmem S36x256x256 .f32) (src : Memref sig .tc .hbm S36x256x256 .f32)
    (q : PosShare TreeShare) (fx : BufOf (F := F) c src) (fs : BufOf (F := F) c sl) (w : S36x256x256.Idx → Elt F .f32)
    (hw : w = src.view.read (Elt F) fx) :
    iprop((sl.view.loc (c : Thread nD τ) ↦[sl.view.set]{fullShare} sl.view.writes (Elt F) fs [⟨Rect.whole S36x256x256, w⟩])
      ∗ (src.view.loc (c : Thread nD τ) ↦[src.view.set]{q} fx)) ⊢ image c sl src q fx := by
  subst hw
  unfold image
  iintro ⟨Hs, Hx⟩
  isplitl [Hs]
  · iexists (sl.view.writes (Elt F) fs [⟨Rect.whole S36x256x256, src.view.read (Elt F) fx⟩])
    isplitr
    · ipureintro
      exact funext fun x => Channel.read_whole_store sl.view fs _ x
    iexact Hs
  iexact Hx

/-- One wait: the flight on its semaphore is taken and what it delivers is left. -/
theorem wait_one (c : Dev nD) {sp sp' : Space} {s s' : Shape} {e e' : EltTy} {sem : DmaSem sig} {srcw : Memref sig .tc sp' s' e'} {dstw : Memref sig .tc sp s e}
    {hsrc : srcw.view.WordExact} {hdst : dstw.view.WordExact} {N : ℕ} (hN : dstw.view.dmaCredit = N) (D : sProp 𝕄) (W : Waits sig Unit) (K : PUnit → sProp 𝕄) :
    iprop(Transfers.Flight countersEmb (c : Thread nD τ) (SemLoc.dma sem) default N D ∗ owes (c : Thread nD τ) 0 W
      ∗ (iprop((∃ W, owes (c : Thread nD τ) 0 W) ∗ D ∗ semVal ((c : Thread nD τ), SemLoc.dma sem) 0) -∗ K ⟨⟩))
    ⊢ wp frame (wpE (defs₀ (F := F)) Variants.none c none) Set.univ (Prog.lift (.waitDma2 sem srcw dstw hsrc hdst)) K := by
  iintro ⟨HF, HW, Hk⟩
  unfold Prog.lift
  iapply (Transfers.wp_waitLocal countersEmb Variants.none (c : Thread nD τ) none default hN) $$ [HF HW]
  · isplitl [HF]; · iexact HF
    iexact HW
  iintro ⟨HD, Hc, HW⟩
  sl_step
  iapply Hk
  isplitl [HW]; · iexists _; iexact HW
  isplitl [HD]; · iexact HD
  iexact Hc

set_option sl_exec.dmaWindow true in
/-- The first image copy: source, slot and semaphore go into flight. -/
theorem start_wp (c : Dev nD) (i : grid0.Coords) (h : cond1 i = 1#1) (q : PosShare TreeShare) (fx : BufOf (F := F) c hbX) (fs : BufOf (F := F) c scX)
    (W : Waits sig Unit) (K : PUnit → sProp 𝕄) :
    iprop((((hbX.slice (Rect.unit (s := S8x36x256x256) ![0, 0, 0, 0] S1x36x256x256.size inb_S8x36x256x256_S1x36x256x256_0_0_0_0) (fun _ => rfl)).squeeze S36x256x256 squeezes_S1x36x256x256_S36x256x256).view.loc (c : Thread nD τ) ↦[((hbX.slice (Rect.unit (s := S8x36x256x256) ![0, 0, 0, 0] S1x36x256x256.size inb_S8x36x256x256_S1x36x256x256_0_0_0_0) (fun _ => rfl)).squeeze S36x256x256 squeezes_S1x36x256x256_S36x256x256).view.set]{q} fx)
      ∗ (((scX.slice (Rect.unit (s := S2x36x256x256) ![0, 0, 0, 0] S1x36x256x256.size inb_S2x36x256x256_S1x36x256x256_0_0_0_0) (fun _ => rfl)).squeeze S36x256x256 squeezes_S1x36x256x256_S36x256x256).view.loc (c : Thread nD τ) ↦[((scX.slice (Rect.unit (s := S2x36x256x256) ![0, 0, 0, 0] S1x36x256x256.size inb_S2x36x256x256_S1x36x256x256_0_0_0_0) (fun _ => rfl)).squeeze S36x256x256 squeezes_S1x36x256x256_S36x256x256).view.set]{fullShare} fs)
      ∗ semVal ((c : Thread nD τ), SemLoc.dma ((cc0_scratch2.slice (Rect.unit (s := S2) ![0] S1.size inb_S2_S1_0)).squeeze S_ squeezes_S1_S_).sem) 0 ∗ owes (c : Thread nD τ) 0 W
      ∗ (iprop(Transfers.Flight countersEmb (c : Thread nD τ) (SemLoc.dma ((cc0_scratch2.slice (Rect.unit (s := S2) ![0] S1.size inb_S2_S1_0)).squeeze S_ squeezes_S1_S_).sem) default 294912 (image c ((scX.slice (Rect.unit (s := S2x36x256x256) ![0, 0, 0, 0] S1x36x256x256.size inb_S2x36x256x256_S1x36x256x256_0_0_0_0) (fun _ => rfl)).squeeze S36x256x256 squeezes_S1x36x256x256_S36x256x256) ((hbX.slice (Rect.unit (s := S8x36x256x256) ![0, 0, 0, 0] S1x36x256x256.size inb_S8x36x256x256_S1x36x256x256_0_0_0_0) (fun _ => rfl)).squeeze S36x256x256 squeezes_S1x36x256x256_S36x256x256) q fx) ∗ owes (c : Thread nD τ) 0 W) -∗ K ⟨⟩))
    ⊢ wp frame (wpE (defs₀ (F := F)) Variants.none c none) Set.univ (startP i) K := by
  unfold startP
  iintro ⟨Hx, Hs, Hc, HW, Hk⟩
  sl_exec (disch := first | exact h)
  sl_step
  iapply Hk
  isplitl [Hc]
  · iapply (Transfers.Flight_mono countersEmb (c : Thread nD τ) (image_of c ((scX.slice (Rect.unit (s := S2x36x256x256) ![0, 0, 0, 0] S1x36x256x256.size inb_S2x36x256x256_S1x36x256x256_0_0_0_0) (fun _ => rfl)).squeeze S36x256x256 squeezes_S1x36x256x256_S36x256x256) ((hbX.slice (Rect.unit (s := S8x36x256x256) ![0, 0, 0, 0] S1x36x256x256.size inb_S8x36x256x256_S1x36x256x256_0_0_0_0) (fun _ => rfl)).squeeze S36x256x256 squeezes_S1x36x256x256_S36x256x256) q fx fs _ ?_)) $$ Hc
    · rfl
  iexact HW

set_option sl_exec.dmaWindow true in
/-- The next image copy: source, slot and semaphore go into flight. -/
theorem prefetch_wp (c : Dev nD) (i : grid0.Coords) (h : k0_cond2 i = 1#1) (q : PosShare TreeShare) (fx : BufOf (F := F) c hbX) (fs : BufOf (F := F) c scX)
    (W : Waits sig Unit) (K : PUnit → sProp 𝕄) :
    iprop((((hbX.slice (Rect.unit (s := S8x36x256x256) (k0_off3 i) S1x36x256x256.size (k0_off3_inb i h)) (fun _ => rfl)).squeeze S36x256x256 squeezes_S1x36x256x256_S36x256x256).view.loc (c : Thread nD τ) ↦[((hbX.slice (Rect.unit (s := S8x36x256x256) (k0_off3 i) S1x36x256x256.size (k0_off3_inb i h)) (fun _ => rfl)).squeeze S36x256x256 squeezes_S1x36x256x256_S36x256x256).view.set]{q} fx)
      ∗ (((scX.slice (Rect.unit (s := S2x36x256x256) (k0_off2 i) S1x36x256x256.size (k0_off2_inb i h)) (fun _ => rfl)).squeeze S36x256x256 squeezes_S1x36x256x256_S36x256x256).view.loc (c : Thread nD τ) ↦[((scX.slice (Rect.unit (s := S2x36x256x256) (k0_off2 i) S1x36x256x256.size (k0_off2_inb i h)) (fun _ => rfl)).squeeze S36x256x256 squeezes_S1x36x256x256_S36x256x256).view.set]{fullShare} fs)
      ∗ semVal ((c : Thread nD τ), SemLoc.dma ((cc0_scratch2.slice (Rect.unit (s := S2) (k0_off1 i) S1.size (k0_off1_inb i h))).squeeze S_ squeezes_S1_S_).sem) 0 ∗ owes (c : Thread nD τ) 0 W
      ∗ (iprop(Transfers.Flight countersEmb (c : Thread nD τ) (SemLoc.dma ((cc0_scratch2.slice (Rect.unit (s := S2) (k0_off1 i) S1.size (k0_off1_inb i h))).squeeze S_ squeezes_S1_S_).sem) default 294912 (image c ((scX.slice (Rect.unit (s := S2x36x256x256) (k0_off2 i) S1x36x256x256.size (k0_off2_inb i h)) (fun _ => rfl)).squeeze S36x256x256 squeezes_S1x36x256x256_S36x256x256) ((hbX.slice (Rect.unit (s := S8x36x256x256) (k0_off3 i) S1x36x256x256.size (k0_off3_inb i h)) (fun _ => rfl)).squeeze S36x256x256 squeezes_S1x36x256x256_S36x256x256) q fx) ∗ owes (c : Thread nD τ) 0 W) -∗ K ⟨⟩))
    ⊢ wp frame (wpE (defs₀ (F := F)) Variants.none c none) Set.univ (prefetchP i) K := by
  unfold prefetchP
  iintro ⟨Hx, Hs, Hc, HW, Hk⟩
  sl_exec (disch := first | exact h)
  sl_step
  iapply Hk
  isplitl [Hc]
  · iapply (Transfers.Flight_mono countersEmb (c : Thread nD τ) (image_of c ((scX.slice (Rect.unit (s := S2x36x256x256) (k0_off2 i) S1x36x256x256.size (k0_off2_inb i h)) (fun _ => rfl)).squeeze S36x256x256 squeezes_S1x36x256x256_S36x256x256) ((hbX.slice (Rect.unit (s := S8x36x256x256) (k0_off3 i) S1x36x256x256.size (k0_off3_inb i h)) (fun _ => rfl)).squeeze S36x256x256 squeezes_S1x36x256x256_S36x256x256) q fx fs _ ?_)) $$ Hc
    · rfl
  iexact HW

/-- Where its condition fails the phase does nothing. -/
theorem start_skip (c : Dev nD) (i : grid0.Coords) (h : ¬ cond1 i = 1#1) (K : PUnit → sProp 𝕄) : K ⟨⟩ ⊢ wp frame (wpE (defs₀ (F := F)) Variants.none c none) Set.univ (startP i) K := by
  unfold startP
  iintro Hk
  sl_exec (disch := first | exact h)
  sl_step
  iexact Hk

/-- Where its condition fails the phase does nothing. -/
theorem prefetch_skip (c : Dev nD) (i : grid0.Coords) (h : ¬ k0_cond2 i = 1#1) (K : PUnit → sProp 𝕄) : K ⟨⟩ ⊢ wp frame (wpE (defs₀ (F := F)) Variants.none c none) Set.univ (prefetchP i) K := by
  unfold prefetchP
  iintro Hk
  sl_exec (disch := first | exact h)
  sl_step
  iexact Hk

/-- Where its condition fails the phase does nothing. -/
theorem awaitOld_skip (c : Dev nD) (i : grid0.Coords) (arg1 : Memref sig .tc .smem S22 .f32) (harg1 : arg1.IsWhole) (h : ¬ k0_cond3 i = 1#1) (K : PUnit → sProp 𝕄) : K ⟨⟩ ⊢ wp frame (wpE (defs₀ (F := F)) Variants.none c none) Set.univ (awaitOldP i arg1 harg1) K := by
  unfold awaitOldP
  iintro Hk
  sl_exec (disch := first | exact h)
  sl_step
  iexact Hk

/-- Where its condition fails the phase does nothing. -/
theorem finish_skip (c : Dev nD) (i : grid0.Coords) (arg1 : Memref sig .tc .smem S22 .f32) (harg1 : arg1.IsWhole) (h : ¬ k0_cond4 i = 1#1) (K : PUnit → sProp 𝕄) : K ⟨⟩ ⊢ wp frame (wpE (defs₀ (F := F)) Variants.none c none) Set.univ (finishP i arg1 harg1) K := by
  unfold finishP
  iintro Hk
  sl_exec (disch := first | exact h)
  sl_step
  iexact Hk

/-- The wait for the image takes the flight on its semaphore and leaves what it delivers. -/
theorem await_wp (c : Dev nD) (i : grid0.Coords) (D : sProp 𝕄) (W : Waits sig Unit) (K : PUnit → sProp 𝕄) :
    iprop(Transfers.Flight countersEmb (c : Thread nD τ) (SemLoc.dma ((cc0_scratch2.slice (Rect.unit (s := S2) (k0_off4 i) S1.size (k0_off4_inb i))).squeeze S_ squeezes_S1_S_).sem) default 294912 D ∗ owes (c : Thread nD τ) 0 W
      ∗ (iprop((∃ W, owes (c : Thread nD τ) 0 W) ∗ D ∗ semVal ((c : Thread nD τ), SemLoc.dma ((cc0_scratch2.slice (Rect.unit (s := S2) (k0_off4 i) S1.size (k0_off4_inb i))).squeeze S_ squeezes_S1_S_).sem) 0) -∗ K ⟨⟩))
    ⊢ wp frame (wpE (defs₀ (F := F)) Variants.none c none) Set.univ (awaitP i) K := by
  unfold awaitP
  refine wait_one c ?_ D W K
  rfl

set_option maxHeartbeats 4000000 in
/-- The five waits take the five flights and leave what they deliver. -/
theorem awaitOld_wp (c : Dev nD) (i : grid0.Coords) (arg1 : Memref sig .tc .smem S22 .f32) (harg1 : arg1.IsWhole) (h : k0_cond3 i = 1#1) (D0 D1 D2 D3 D4 : sProp 𝕄) (W : Waits sig Unit) (K : PUnit → sProp 𝕄) :
    iprop(Transfers.Flight countersEmb (c : Thread nD τ) (SemLoc.dma ((cc0_scratch3.slice (Rect.unit (s := S2x5) (k0_off7 i) S1x1.size (k0_off7_inb i h))).squeeze S_ squeezes_S1x1_S_).sem) default 49152 D0
      ∗ Transfers.Flight countersEmb (c : Thread nD τ) (SemLoc.dma ((cc0_scratch3.slice (Rect.unit (s := S2x5) (k0_off10 i) S1x1.size (k0_off10_inb i h))).squeeze S_ squeezes_S1x1_S_).sem) default 73728 D1
      ∗ Transfers.Flight countersEmb (c : Thread nD τ) (SemLoc.dma ((cc0_scratch3.slice (Rect.unit (s := S2x5) (k0_off13 i) S1x1.size (k0_off13_inb i h))).squeeze S_ squeezes_S1x1_S_).sem) default 57344 D2
      ∗ Transfers.Flight countersEmb (c : Thread nD τ) (SemLoc.dma ((cc0_scratch3.slice (Rect.unit (s := S2x5) (k0_off16 i) S1x1.size (k0_off16_inb i h))).squeeze S_ squeezes_S1x1_S_).sem) default 57344 D3
      ∗ Transfers.Flight countersEmb (c : Thread nD τ) (SemLoc.dma ((cc0_scratch3.slice (Rect.unit (s := S2x5) (k0_off19 i) S1x1.size (k0_off19_inb i h))).squeeze S_ squeezes_S1x1_S_).sem) default 57344 D4
      ∗ owes (c : Thread nD τ) 0 W
      ∗ (iprop((D0 ∗ semVal ((c : Thread nD τ), SemLoc.dma ((cc0_scratch3.slice (Rect.unit (s := S2x5) (k0_off7 i) S1x1.size (k0_off7_inb i h))).squeeze S_ squeezes_S1x1_S_).sem) 0)
        ∗ (D1 ∗ semVal ((c : Thread nD τ), SemLoc.dma ((cc0_scratch3.slice (Rect.unit (s := S2x5) (k0_off10 i) S1x1.size (k0_off10_inb i h))).squeeze S_ squeezes_S1x1_S_).sem) 0)
        ∗ (D2 ∗ semVal ((c : Thread nD τ), SemLoc.dma ((cc0_scratch3.slice (Rect.unit (s := S2x5) (k0_off13 i) S1x1.size (k0_off13_inb i h))).squeeze S_ squeezes_S1x1_S_).sem) 0)
        ∗ (D3 ∗ semVal ((c : Thread nD τ), SemLoc.dma ((cc0_scratch3.slice (Rect.unit (s := S2x5) (k0_off16 i) S1x1.size (k0_off16_inb i h))).squeeze S_ squeezes_S1x1_S_).sem) 0)
        ∗ (D4 ∗ semVal ((c : Thread nD τ), SemLoc.dma ((cc0_scratch3.slice (Rect.unit (s := S2x5) (k0_off19 i) S1x1.size (k0_off19_inb i h))).squeeze S_ squeezes_S1x1_S_).sem) 0)
        ∗ ∃ W, owes (c : Thread nD τ) 0 W) -∗ K ⟨⟩))
    ⊢ wp frame (wpE (defs₀ (F := F)) Variants.none c none) Set.univ (awaitOldP i arg1 harg1) K := by
  unfold awaitOldP k0_part1_skel
  rw [dif_pos h]
  simp only [wp_bind]
  iintro ⟨HF0, HF1, HF2, HF3, HF4, HW, Hk⟩
  iapply (wait_one c rfl D0) $$ [-]
  isplitl [HF0]; · iexact HF0
  isplitl [HW]; · iexact HW
  iintro ⟨⟨%W0, HW⟩, HD0, Hc0⟩
  iapply (wait_one c rfl D1) $$ [-]
  isplitl [HF1]; · iexact HF1
  isplitl [HW]; · iexact HW
  iintro ⟨⟨%W1, HW⟩, HD1, Hc1⟩
  iapply (wait_one c rfl D2) $$ [-]
  isplitl [HF2]; · iexact HF2
  isplitl [HW]; · iexact HW
  iintro ⟨⟨%W2, HW⟩, HD2, Hc2⟩
  sl_step
  iapply (wait_one c rfl D3) $$ [-]
  isplitl [HF3]; · iexact HF3
  isplitl [HW]; · iexact HW
  iintro ⟨⟨%W3, HW⟩, HD3, Hc3⟩
  iapply (wait_one c rfl D4) $$ [-]
  isplitl [HF4]; · iexact HF4
  isplitl [HW]; · iexact HW
  iintro ⟨⟨%W4, HW⟩, HD4, Hc4⟩
  sl_step
  iapply Hk
  isplitl [HD0 Hc0]
  · isplitl [HD0]; · iexact HD0
    iexact Hc0
  isplitl [HD1 Hc1]
  · isplitl [HD1]; · iexact HD1
    iexact Hc1
  isplitl [HD2 Hc2]
  · isplitl [HD2]; · iexact HD2
    iexact Hc2
  isplitl [HD3 Hc3]
  · isplitl [HD3]; · iexact HD3
    iexact Hc3
  isplitl [HD4 Hc4]
  · isplitl [HD4]; · iexact HD4
    iexact Hc4
  iexists _
  iexact HW

set_option maxHeartbeats 4000000 in
/-- The ten waits take the ten flights and leave what they deliver. -/
theorem finish_wp (c : Dev nD) (i : grid0.Coords) (arg1 : Memref sig .tc .smem S22 .f32) (harg1 : arg1.IsWhole) (h : k0_cond4 i = 1#1) (D0 D1 D2 D3 D4 D5 D6 D7 D8 D9 : sProp 𝕄) (W : Waits sig Unit) (K : PUnit → sProp 𝕄) :
    iprop(Transfers.Flight countersEmb (c : Thread nD τ) (SemLoc.dma ((cc0_scratch3.slice (Rect.unit (s := S2x5) (k0_off37 i) S1x1.size (k0_off37_inb i h))).squeeze S_ squeezes_S1x1_S_).sem) default 49152 D0
      ∗ Transfers.Flight countersEmb (c : Thread nD τ) (SemLoc.dma ((cc0_scratch3.slice (Rect.unit (s := S2x5) (k0_off40 i) S1x1.size (k0_off40_inb i h))).squeeze S_ squeezes_S1x1_S_).sem) default 49152 D1
      ∗ Transfers.Flight countersEmb (c : Thread nD τ) (SemLoc.dma ((cc0_scratch3.slice (Rect.unit (s := S2x5) (k0_off43 i) S1x1.size (k0_off43_inb i h))).squeeze S_ squeezes_S1x1_S_).sem) default 73728 D2
      ∗ Transfers.Flight countersEmb (c : Thread nD τ) (SemLoc.dma ((cc0_scratch3.slice (Rect.unit (s := S2x5) (k0_off46 i) S1x1.size (k0_off46_inb i h))).squeeze S_ squeezes_S1x1_S_).sem) default 73728 D3
      ∗ Transfers.Flight countersEmb (c : Thread nD τ) (SemLoc.dma ((cc0_scratch3.slice (Rect.unit (s := S2x5) (k0_off49 i) S1x1.size (k0_off49_inb i h))).squeeze S_ squeezes_S1x1_S_).sem) default 57344 D4
      ∗ Transfers.Flight countersEmb (c : Thread nD τ) (SemLoc.dma ((cc0_scratch3.slice (Rect.unit (s := S2x5) (k0_off52 i) S1x1.size (k0_off52_inb i h))).squeeze S_ squeezes_S1x1_S_).sem) default 57344 D5
      ∗ Transfers.Flight countersEmb (c : Thread nD τ) (SemLoc.dma ((cc0_scratch3.slice (Rect.unit (s := S2x5) (k0_off55 i) S1x1.size (k0_off55_inb i h))).squeeze S_ squeezes_S1x1_S_).sem) default 57344 D6
      ∗ Transfers.Flight countersEmb (c : Thread nD τ) (SemLoc.dma ((cc0_scratch3.slice (Rect.unit (s := S2x5) (k0_off58 i) S1x1.size (k0_off58_inb i h))).squeeze S_ squeezes_S1x1_S_).sem) default 57344 D7
      ∗ Transfers.Flight countersEmb (c : Thread nD τ) (SemLoc.dma ((cc0_scratch3.slice (Rect.unit (s := S2x5) (k0_off61 i) S1x1.size (k0_off61_inb i h))).squeeze S_ squeezes_S1x1_S_).sem) default 57344 D8
      ∗ Transfers.Flight countersEmb (c : Thread nD τ) (SemLoc.dma ((cc0_scratch3.slice (Rect.unit (s := S2x5) (k0_off64 i) S1x1.size (k0_off64_inb i h))).squeeze S_ squeezes_S1x1_S_).sem) default 57344 D9
      ∗ owes (c : Thread nD τ) 0 W
      ∗ (iprop((D0 ∗ semVal ((c : Thread nD τ), SemLoc.dma ((cc0_scratch3.slice (Rect.unit (s := S2x5) (k0_off37 i) S1x1.size (k0_off37_inb i h))).squeeze S_ squeezes_S1x1_S_).sem) 0)
        ∗ (D1 ∗ semVal ((c : Thread nD τ), SemLoc.dma ((cc0_scratch3.slice (Rect.unit (s := S2x5) (k0_off40 i) S1x1.size (k0_off40_inb i h))).squeeze S_ squeezes_S1x1_S_).sem) 0)
        ∗ (D2 ∗ semVal ((c : Thread nD τ), SemLoc.dma ((cc0_scratch3.slice (Rect.unit (s := S2x5) (k0_off43 i) S1x1.size (k0_off43_inb i h))).squeeze S_ squeezes_S1x1_S_).sem) 0)
        ∗ (D3 ∗ semVal ((c : Thread nD τ), SemLoc.dma ((cc0_scratch3.slice (Rect.unit (s := S2x5) (k0_off46 i) S1x1.size (k0_off46_inb i h))).squeeze S_ squeezes_S1x1_S_).sem) 0)
        ∗ (D4 ∗ semVal ((c : Thread nD τ), SemLoc.dma ((cc0_scratch3.slice (Rect.unit (s := S2x5) (k0_off49 i) S1x1.size (k0_off49_inb i h))).squeeze S_ squeezes_S1x1_S_).sem) 0)
        ∗ (D5 ∗ semVal ((c : Thread nD τ), SemLoc.dma ((cc0_scratch3.slice (Rect.unit (s := S2x5) (k0_off52 i) S1x1.size (k0_off52_inb i h))).squeeze S_ squeezes_S1x1_S_).sem) 0)
        ∗ (D6 ∗ semVal ((c : Thread nD τ), SemLoc.dma ((cc0_scratch3.slice (Rect.unit (s := S2x5) (k0_off55 i) S1x1.size (k0_off55_inb i h))).squeeze S_ squeezes_S1x1_S_).sem) 0)
        ∗ (D7 ∗ semVal ((c : Thread nD τ), SemLoc.dma ((cc0_scratch3.slice (Rect.unit (s := S2x5) (k0_off58 i) S1x1.size (k0_off58_inb i h))).squeeze S_ squeezes_S1x1_S_).sem) 0)
        ∗ (D8 ∗ semVal ((c : Thread nD τ), SemLoc.dma ((cc0_scratch3.slice (Rect.unit (s := S2x5) (k0_off61 i) S1x1.size (k0_off61_inb i h))).squeeze S_ squeezes_S1x1_S_).sem) 0)
        ∗ (D9 ∗ semVal ((c : Thread nD τ), SemLoc.dma ((cc0_scratch3.slice (Rect.unit (s := S2x5) (k0_off64 i) S1x1.size (k0_off64_inb i h))).squeeze S_ squeezes_S1x1_S_).sem) 0)
        ∗ ∃ W, owes (c : Thread nD τ) 0 W) -∗ K ⟨⟩))
    ⊢ wp frame (wpE (defs₀ (F := F)) Variants.none c none) Set.univ (finishP i arg1 harg1) K := by
  unfold finishP k0_part2_skel k0_part3_skel
  rw [dif_pos h]
  simp only [wp_bind]
  iintro ⟨HF0, HF1, HF2, HF3, HF4, HF5, HF6, HF7, HF8, HF9, HW, Hk⟩
  iapply (wait_one c rfl D0) $$ [-]
  isplitl [HF0]; · iexact HF0
  isplitl [HW]; · iexact HW
  iintro ⟨⟨%W0, HW⟩, HD0, Hc0⟩
  iapply (wait_one c rfl D1) $$ [-]
  isplitl [HF1]; · iexact HF1
  isplitl [HW]; · iexact HW
  iintro ⟨⟨%W1, HW⟩, HD1, Hc1⟩
  iapply (wait_one c rfl D2) $$ [-]
  isplitl [HF2]; · iexact HF2
  isplitl [HW]; · iexact HW
  iintro ⟨⟨%W2, HW⟩, HD2, Hc2⟩
  iapply (wait_one c rfl D3) $$ [-]
  isplitl [HF3]; · iexact HF3
  isplitl [HW]; · iexact HW
  iintro ⟨⟨%W3, HW⟩, HD3, Hc3⟩
  sl_step
  iapply (wait_one c rfl D4) $$ [-]
  isplitl [HF4]; · iexact HF4
  isplitl [HW]; · iexact HW
  iintro ⟨⟨%W4, HW⟩, HD4, Hc4⟩
  iapply (wait_one c rfl D5) $$ [-]
  isplitl [HF5]; · iexact HF5
  isplitl [HW]; · iexact HW
  iintro ⟨⟨%W5, HW⟩, HD5, Hc5⟩
  iapply (wait_one c rfl D6) $$ [-]
  isplitl [HF6]; · iexact HF6
  isplitl [HW]; · iexact HW
  iintro ⟨⟨%W6, HW⟩, HD6, Hc6⟩
  iapply (wait_one c rfl D7) $$ [-]
  isplitl [HF7]; · iexact HF7
  isplitl [HW]; · iexact HW
  iintro ⟨⟨%W7, HW⟩, HD7, Hc7⟩
  sl_step
  iapply (wait_one c rfl D8) $$ [-]
  isplitl [HF8]; · iexact HF8
  isplitl [HW]; · iexact HW
  iintro ⟨⟨%W8, HW⟩, HD8, Hc8⟩
  iapply (wait_one c rfl D9) $$ [-]
  isplitl [HF9]; · iexact HF9
  isplitl [HW]; · iexact HW
  iintro ⟨⟨%W9, HW⟩, HD9, Hc9⟩
  sl_step
  iapply Hk
  isplitl [HD0 Hc0]
  · isplitl [HD0]; · iexact HD0
    iexact Hc0
  isplitl [HD1 Hc1]
  · isplitl [HD1]; · iexact HD1
    iexact Hc1
  isplitl [HD2 Hc2]
  · isplitl [HD2]; · iexact HD2
    iexact Hc2
  isplitl [HD3 Hc3]
  · isplitl [HD3]; · iexact HD3
    iexact Hc3
  isplitl [HD4 Hc4]
  · isplitl [HD4]; · iexact HD4
    iexact Hc4
  isplitl [HD5 Hc5]
  · isplitl [HD5]; · iexact HD5
    iexact Hc5
  isplitl [HD6 Hc6]
  · isplitl [HD6]; · iexact HD6
    iexact Hc6
  isplitl [HD7 Hc7]
  · isplitl [HD7]; · iexact HD7
    iexact Hc7
  isplitl [HD8 Hc8]
  · isplitl [HD8]; · iexact HD8
    iexact Hc8
  isplitl [HD9 Hc9]
  · isplitl [HD9]; · iexact HD9
    iexact Hc9
  iexists _
  iexact HW

/-- The loads return the parameters and the channel. -/
theorem load_wp (c : Dev nD) (i : grid0.Coords) (arg1 : Memref sig .tc .smem S22 .f32) (harg1 : arg1.IsWhole) (fp : BufOf (F := F) c arg1) (qx : PosShare TreeShare) (fx : BufOf (F := F) c (xs i))
    (W : Waits sig Unit) (K : (Σ' (arg0 : BitVec 32) (v19 : Elt F .f32) (v21 : F .f32) (v22 : Elt F .f32) (v23 : Elt F .f32), FVec F S256x256 .f32) → sProp 𝕄) :
    iprop((arg1.view.loc (c : Thread nD τ) ↦{fullShare} fp) ∗ ((xs i).view.loc (c : Thread nD τ) ↦[(xs i).view.set]{qx} fx) ∗ owes (c : Thread nD τ) 0 W
      ∗ (iprop((arg1.view.loc (c : Thread nD τ) ↦{fullShare} fp) ∗ ((xs i).view.loc (c : Thread nD τ) ↦[(xs i).view.set]{qx} fx) ∗ owes (c : Thread nD τ) 0 W)
        -∗ K ⟨BitVec.ofNat 32 (i 0).val, Channel.param (arg1.view.read (Elt F) fp) 0, Channel.scaled (Channel.param (arg1.view.read (Elt F) fp) 1), Channel.param (arg1.view.read (Elt F) fp) 2, Channel.param (arg1.view.read (Elt F) fp) 3, k0_pay2 (Channel.chan ((xs i).view.read (Elt F) fx) 0)⟩))
    ⊢ wp frame (wpE (defs₀ (F := F)) Variants.none c none) Set.univ (loadP i arg1 harg1) K := by
  unfold loadP
  iintro ⟨Hp, Hx, HW, Hk⟩
  sl_exec
  sl_step
  have hK : ∀ a b, a = b → (K b ⊢ K a) := by rintro _ _ rfl; exact .rfl
  iapply (hK _ ⟨BitVec.ofNat 32 (i 0).val, Channel.param (arg1.view.read (Elt F) fp) 0, Channel.scaled (Channel.param (arg1.view.read (Elt F) fp) 1), Channel.param (arg1.view.read (Elt F) fp) 2, Channel.param (arg1.view.read (Elt F) fp) 3, k0_pay2 (Channel.chan ((xs i).view.read (Elt F) fx) 0)⟩ ?_) $$ [-]
  · rfl
  iapply Hk
  isplitl [Hp]; · iexact Hp
  isplitl [Hx]; · iexact Hx
  iexact HW

end Cert.KernelIdeal.Ring

end
-- ==== Proof.Compute.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.Views

@[expose] public section

set_option maxRecDepth 16384

/-! # One grid point between its waits: the image computed and its five copies started -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

/-- A run of `n` channels from channel `k` on, stored channel by channel and copied to the piece `p` of the result, leaves
    there the values of the image. -/
theorem run_values {n k : ℕ} {κ κ' : Kind} {sp sp' : Space} (p : View sig κ sp ⟨3, ![n, 256, 256]⟩ .f32)
    (v : View sig κ' sp' S36x256x256 .f32) {P : S22.Idx → Elt F .f32} {X : S36x256x256.Idx → Elt F .f32}
    {L : List (View.Piece (Elt F) S36x256x256 .f32)} {cs : List (Fin 36)} (hL : Channel.Stores P X L cs)
    (inb : ∀ a, (![k, 0, 0] : Fin 3 → ℕ) a + (![n, 256, 256] : Fin 3 → ℕ) a ≤ S36x256x256.size a)
    (hcs : ∀ y : Fin 36, k ≤ y.val → y.val < k + n → y ∈ cs)
    (g G : p.ty.Contents (Elt F)) (f : v.ty.Contents (Elt F)) (w : (⟨3, ![n, 256, 256]⟩ : Shape).Idx → Elt F .f32)
    (hw : ∀ x, w x = v.read (Elt F) (v.writes (Elt F) f L) ((Rect.unit (s := S36x256x256) ![k, 0, 0] ![n, 256, 256] inb).emb x))
    (hG : ∀ x, p.read (Elt F) G x = Channel.outImage P X ((Rect.unit (s := S36x256x256) ![k, 0, 0] ![n, 256, 256] inb).emb x)) :
    ∀ z ∈ p.set, p.writes (Elt F) g [⟨Rect.whole _, w⟩] z = G z := by
  have key : ∀ x, p.read (Elt F) (p.writes (Elt F) g [⟨Rect.whole _, w⟩]) x = p.read (Elt F) G x := by
    intro x
    refine (Channel.read_whole_store p g w x).trans (((hw x).trans (hL.read v f _ ?_)).trans (hG x).symm)
    have hx : (x 0).val < n := (x 0).isLt
    refine hcs _ ?_ ?_
    · show k ≤ k + 1 * (x 0).val
      omega
    · show k + 1 * (x 0).val < k + n
      omega
  intro z hz
  obtain ⟨x, _, rfl⟩ := Finset.mem_map.mp hz
  have := key x
  simpa [View.read] using this

/-- What the copy of run 0 delivers: the piece of the result at `G`, and the run of the slot back. -/
def delivers0 (c : Dev nD) (i : grid0.Coords) (G : BufOf (F := F) c hbO) : sProp 𝕄 :=
  iprop(((pc0 i).view.loc (c : Thread nD τ) ↦[(pc0 i).view.set]{fullShare} G)
    ∗ ∃ f : BufOf (F := F) c scO, ((ti0 i).view.loc (c : Thread nD τ) ↦[(ti0 i).view.set]{fullShare} f))

/-- A run stored channel by channel and read back for its copy delivers `G`. -/
theorem deliver0 (c : Dev nD) (i : grid0.Coords) (P : S22.Idx → Elt F .f32) (X : S36x256x256.Idx → Elt F .f32)
    (g G : BufOf (F := F) c hbO) (f : BufOf (F := F) c scO) (L : List (View.Piece (Elt F) S36x256x256 .f32))
    (hL : Channel.Stores P X L [5, 4, 3, 2, 1, 0]) (w : S6x256x256.Idx → Elt F .f32)
    (hw : w = (ti0 i).view.read (Elt F) ((os i).view.writes (Elt F) f L))
    (hG : ∀ x, (pc0 i).view.read (Elt F) G x = Channel.outImage P X (wr0.emb x)) :
    iprop(((pc0 i).view.loc (c : Thread nD τ) ↦[(pc0 i).view.set]{fullShare} (pc0 i).view.writes (Elt F) g [⟨Rect.whole S6x256x256, w⟩])
      ∗ ((ti0 i).view.loc (c : Thread nD τ) ↦[(ti0 i).view.set]{fullShare} (os i).view.writes (Elt F) f L))
    ⊢ delivers0 c i G := by
  have hv : ∀ z ∈ (pc0 i).view.set, (pc0 i).view.writes (Elt F) g [⟨Rect.whole S6x256x256, w⟩] z = G z :=
    run_values (pc0 i).view (os i).view hL inbW0 (by decide) g G f w
      (fun x => (congrFun hw x).trans (congrArg ((os i).view.writes (Elt F) f L) (emb0 i x))) hG
  unfold delivers0
  rw [pointsTo_congr hv]
  iintro ⟨Hg, Ht⟩
  isplitl [Hg]; · iexact Hg
  iexists ((os i).view.writes (Elt F) f L)
  iexact Ht

/-- What the copy of run 1 delivers: the piece of the result at `G`, and the run of the slot back. -/
def delivers1 (c : Dev nD) (i : grid0.Coords) (G : BufOf (F := F) c hbO) : sProp 𝕄 :=
  iprop(((pc1 i).view.loc (c : Thread nD τ) ↦[(pc1 i).view.set]{fullShare} G)
    ∗ ∃ f : BufOf (F := F) c scO, ((ti1 i).view.loc (c : Thread nD τ) ↦[(ti1 i).view.set]{fullShare} f))

/-- A run stored channel by channel and read back for its copy delivers `G`. -/
theorem deliver1 (c : Dev nD) (i : grid0.Coords) (P : S22.Idx → Elt F .f32) (X : S36x256x256.Idx → Elt F .f32)
    (g G : BufOf (F := F) c hbO) (f : BufOf (F := F) c scO) (L : List (View.Piece (Elt F) S36x256x256 .f32))
    (hL : Channel.Stores P X L [14, 13, 12, 11, 10, 9, 8, 7, 6]) (w : S9x256x256.Idx → Elt F .f32)
    (hw : w = (ti1 i).view.read (Elt F) ((os i).view.writes (Elt F) f L))
    (hG : ∀ x, (pc1 i).view.read (Elt F) G x = Channel.outImage P X (wr1.emb x)) :
    iprop(((pc1 i).view.loc (c : Thread nD τ) ↦[(pc1 i).view.set]{fullShare} (pc1 i).view.writes (Elt F) g [⟨Rect.whole S9x256x256, w⟩])
      ∗ ((ti1 i).view.loc (c : Thread nD τ) ↦[(ti1 i).view.set]{fullShare} (os i).view.writes (Elt F) f L))
    ⊢ delivers1 c i G := by
  have hv : ∀ z ∈ (pc1 i).view.set, (pc1 i).view.writes (Elt F) g [⟨Rect.whole S9x256x256, w⟩] z = G z :=
    run_values (pc1 i).view (os i).view hL inbW1 (by decide) g G f w
      (fun x => (congrFun hw x).trans (congrArg ((os i).view.writes (Elt F) f L) (emb1 i x))) hG
  unfold delivers1
  rw [pointsTo_congr hv]
  iintro ⟨Hg, Ht⟩
  isplitl [Hg]; · iexact Hg
  iexists ((os i).view.writes (Elt F) f L)
  iexact Ht

/-- What the copy of run 2 delivers: the piece of the result at `G`, and the run of the slot back. -/
def delivers2 (c : Dev nD) (i : grid0.Coords) (G : BufOf (F := F) c hbO) : sProp 𝕄 :=
  iprop(((pc2 i).view.loc (c : Thread nD τ) ↦[(pc2 i).view.set]{fullShare} G)
    ∗ ∃ f : BufOf (F := F) c scO, ((ti2 i).view.loc (c : Thread nD τ) ↦[(ti2 i).view.set]{fullShare} f))

/-- A run stored channel by channel and read back for its copy delivers `G`. -/
theorem deliver2 (c : Dev nD) (i : grid0.Coords) (P : S22.Idx → Elt F .f32) (X : S36x256x256.Idx → Elt F .f32)
    (g G : BufOf (F := F) c hbO) (f : BufOf (F := F) c scO) (L : List (View.Piece (Elt F) S36x256x256 .f32))
    (hL : Channel.Stores P X L [21, 20, 19, 18, 17, 16, 15]) (w : S7x256x256.Idx → Elt F .f32)
    (hw : w = (ti2 i).view.read (Elt F) ((os i).view.writes (Elt F) f L))
    (hG : ∀ x, (pc2 i).view.read (Elt F) G x = Channel.outImage P X (wr2.emb x)) :
    iprop(((pc2 i).view.loc (c : Thread nD τ) ↦[(pc2 i).view.set]{fullShare} (pc2 i).view.writes (Elt F) g [⟨Rect.whole S7x256x256, w⟩])
      ∗ ((ti2 i).view.loc (c : Thread nD τ) ↦[(ti2 i).view.set]{fullShare} (os i).view.writes (Elt F) f L))
    ⊢ delivers2 c i G := by
  have hv : ∀ z ∈ (pc2 i).view.set, (pc2 i).view.writes (Elt F) g [⟨Rect.whole S7x256x256, w⟩] z = G z :=
    run_values (pc2 i).view (os i).view hL inbW2 (by decide) g G f w
      (fun x => (congrFun hw x).trans (congrArg ((os i).view.writes (Elt F) f L) (emb2 i x))) hG
  unfold delivers2
  rw [pointsTo_congr hv]
  iintro ⟨Hg, Ht⟩
  isplitl [Hg]; · iexact Hg
  iexists ((os i).view.writes (Elt F) f L)
  iexact Ht

/-- What the copy of run 3 delivers: the piece of the result at `G`, and the run of the slot back. -/
def delivers3 (c : Dev nD) (i : grid0.Coords) (G : BufOf (F := F) c hbO) : sProp 𝕄 :=
  iprop(((pc3 i).view.loc (c : Thread nD τ) ↦[(pc3 i).view.set]{fullShare} G)
    ∗ ∃ f : BufOf (F := F) c scO, ((ti3 i).view.loc (c : Thread nD τ) ↦[(ti3 i).view.set]{fullShare} f))

/-- A run stored channel by channel and read back for its copy delivers `G`. -/
theorem deliver3 (c : Dev nD) (i : grid0.Coords) (P : S22.Idx → Elt F .f32) (X : S36x256x256.Idx → Elt F .f32)
    (g G : BufOf (F := F) c hbO) (f : BufOf (F := F) c scO) (L : List (View.Piece (Elt F) S36x256x256 .f32))
    (hL : Channel.Stores P X L [28, 27, 26, 25, 24, 23, 22]) (w : S7x256x256.Idx → Elt F .f32)
    (hw : w = (ti3 i).view.read (Elt F) ((os i).view.writes (Elt F) f L))
    (hG : ∀ x, (pc3 i).view.read (Elt F) G x = Channel.outImage P X (wr3.emb x)) :
    iprop(((pc3 i).view.loc (c : Thread nD τ) ↦[(pc3 i).view.set]{fullShare} (pc3 i).view.writes (Elt F) g [⟨Rect.whole S7x256x256, w⟩])
      ∗ ((ti3 i).view.loc (c : Thread nD τ) ↦[(ti3 i).view.set]{fullShare} (os i).view.writes (Elt F) f L))
    ⊢ delivers3 c i G := by
  have hv : ∀ z ∈ (pc3 i).view.set, (pc3 i).view.writes (Elt F) g [⟨Rect.whole S7x256x256, w⟩] z = G z :=
    run_values (pc3 i).view (os i).view hL inbW3 (by decide) g G f w
      (fun x => (congrFun hw x).trans (congrArg ((os i).view.writes (Elt F) f L) (emb3 i x))) hG
  unfold delivers3
  rw [pointsTo_congr hv]
  iintro ⟨Hg, Ht⟩
  isplitl [Hg]; · iexact Hg
  iexists ((os i).view.writes (Elt F) f L)
  iexact Ht

/-- What the copy of run 4 delivers: the piece of the result at `G`, and the run of the slot back. -/
def delivers4 (c : Dev nD) (i : grid0.Coords) (G : BufOf (F := F) c hbO) : sProp 𝕄 :=
  iprop(((pc4 i).view.loc (c : Thread nD τ) ↦[(pc4 i).view.set]{fullShare} G)
    ∗ ∃ f : BufOf (F := F) c scO, ((ti4 i).view.loc (c : Thread nD τ) ↦[(ti4 i).view.set]{fullShare} f))

/-- A run stored channel by channel and read back for its copy delivers `G`. -/
theorem deliver4 (c : Dev nD) (i : grid0.Coords) (P : S22.Idx → Elt F .f32) (X : S36x256x256.Idx → Elt F .f32)
    (g G : BufOf (F := F) c hbO) (f : BufOf (F := F) c scO) (L : List (View.Piece (Elt F) S36x256x256 .f32))
    (hL : Channel.Stores P X L [35, 34, 33, 32, 31, 30, 29]) (w : S7x256x256.Idx → Elt F .f32)
    (hw : w = (ti4 i).view.read (Elt F) ((os i).view.writes (Elt F) f L))
    (hG : ∀ x, (pc4 i).view.read (Elt F) G x = Channel.outImage P X (wr4.emb x)) :
    iprop(((pc4 i).view.loc (c : Thread nD τ) ↦[(pc4 i).view.set]{fullShare} (pc4 i).view.writes (Elt F) g [⟨Rect.whole S7x256x256, w⟩])
      ∗ ((ti4 i).view.loc (c : Thread nD τ) ↦[(ti4 i).view.set]{fullShare} (os i).view.writes (Elt F) f L))
    ⊢ delivers4 c i G := by
  have hv : ∀ z ∈ (pc4 i).view.set, (pc4 i).view.writes (Elt F) g [⟨Rect.whole S7x256x256, w⟩] z = G z :=
    run_values (pc4 i).view (os i).view hL inbW4 (by decide) g G f w
      (fun x => (congrFun hw x).trans (congrArg ((os i).view.writes (Elt F) f L) (emb4 i x))) hG
  unfold delivers4
  rw [pointsTo_congr hv]
  iintro ⟨Hg, Ht⟩
  isplitl [Hg]; · iexact Hg
  iexists ((os i).view.writes (Elt F) f L)
  iexact Ht

/-- A point's arithmetic, its stores and the copies out they are followed by; then `T`. -/
def computeP (i : grid0.Coords) (arg1 : Memref sig .tc .smem S22 .f32) (harg1 : arg1.IsWhole) (v19 : Elt F .f32) (v21 : F .f32) (v22 v23 : Elt F .f32) (v27 : FVec F S256x256 .f32)
    (T : Prog (TpuEff nD τ sig (Elt F) Λ₀ .tc) PUnit) : Prog (TpuEff nD τ sig (Elt F) Λ₀ .tc) PUnit := do
      k0_part5_skel i arg1 harg1 hbX (Memref.isWhole_whole _) hbO (Memref.isWhole_whole _) scX (Memref.isWhole_whole _) scO (Memref.isWhole_whole _) cc0_scratch2 cc0_scratch3 v19 v21 v22 v23 v27
      let ⟨v84, v85, v87, v88, v89, v96⟩ : Σ' (v84 : Elt F .f32) (v85 : Elt F .f32) (v87 : F .f32) (v88 : Elt F .f32) (v89 : Elt F .f32), FVec F S256x256 .f32 ← k0_part6_skel i arg1 harg1 hbX (Memref.isWhole_whole _) hbO (Memref.isWhole_whole _) scX (Memref.isWhole_whole _) scO (Memref.isWhole_whole _) cc0_scratch2 cc0_scratch3 v19 v21 v22 v23
      let ⟨v134, v140⟩ : Σ' (v134 : FVec F S256x256 .f32), FVec F S256x256 .f32 ← k0_part7_skel i arg1 harg1 hbX (Memref.isWhole_whole _) hbO (Memref.isWhole_whole _) scX (Memref.isWhole_whole _) scO (Memref.isWhole_whole _) cc0_scratch2 cc0_scratch3 v84 v85 v87 v96
      k0_part8_skel i arg1 harg1 hbX (Memref.isWhole_whole _) hbO (Memref.isWhole_whole _) scX (Memref.isWhole_whole _) scO (Memref.isWhole_whole _) cc0_scratch2 cc0_scratch3 v84 v88 v89 v134 v140
      let ⟨v198, v199, v201, v202, v203⟩ : Σ' (v198 : Elt F .f32) (v199 : Elt F .f32) (v201 : F .f32) (v202 : Elt F .f32), Elt F .f32 ← k0_part9_skel i arg1 harg1 hbX (Memref.isWhole_whole _) hbO (Memref.isWhole_whole _) scX (Memref.isWhole_whole _) scO (Memref.isWhole_whole _) cc0_scratch2 cc0_scratch3 v84 v88 v89 v134
      let ⟨v234, v240⟩ : Σ' (v234 : FVec F S256x256 .f32), FVec F S256x256 .f32 ← k0_part10_skel i arg1 harg1 hbX (Memref.isWhole_whole _) hbO (Memref.isWhole_whole _) scX (Memref.isWhole_whole _) scO (Memref.isWhole_whole _) cc0_scratch2 cc0_scratch3 v198
      let ⟨v274, v275, v276⟩ : Σ' (v274 : FVec F S256x256 .f32) (v275 : FVec F S1x256 .f32), FVec F S1x256 .f32 ← k0_part11_skel i arg1 harg1 hbX (Memref.isWhole_whole _) hbO (Memref.isWhole_whole _) scX (Memref.isWhole_whole _) scO (Memref.isWhole_whole _) cc0_scratch2 cc0_scratch3 v198 v234 v240
      let v296 : FVec F S256x256 .f32 ← k0_part12_skel i arg1 harg1 hbX (Memref.isWhole_whole _) hbO (Memref.isWhole_whole _) scX (Memref.isWhole_whole _) scO (Memref.isWhole_whole _) cc0_scratch2 cc0_scratch3 v198 v199 v201 v202 v203 v274 v275 v276
      k0_part13_skel i arg1 harg1 hbX (Memref.isWhole_whole _) hbO (Memref.isWhole_whole _) scX (Memref.isWhole_whole _) scO (Memref.isWhole_whole _) cc0_scratch2 cc0_scratch3 v198 v202 v203 v296
      let v386 : FVec F S256x256 .f32 ← k0_part14_skel i arg1 harg1 hbX (Memref.isWhole_whole _) hbO (Memref.isWhole_whole _) scX (Memref.isWhole_whole _) scO (Memref.isWhole_whole _) cc0_scratch2 cc0_scratch3 v198 v202 v203 v296
      let v424 : FVec F S256x256 .f32 ← k0_part15_skel i arg1 harg1 hbX (Memref.isWhole_whole _) hbO (Memref.isWhole_whole _) scX (Memref.isWhole_whole _) scO (Memref.isWhole_whole _) cc0_scratch2 cc0_scratch3 v198 v202 v203 v296 v386
      let ⟨v456, cst_281⟩ : Σ' (v456 : FVec F S256x256 .f32), F .f32 ← k0_part16_skel i arg1 harg1 hbX (Memref.isWhole_whole _) hbO (Memref.isWhole_whole _) scX (Memref.isWhole_whole _) scO (Memref.isWhole_whole _) cc0_scratch2 cc0_scratch3 v198 v202 v203 v296 v424
      let ⟨v474, v475, v477, v478, v479, v486⟩ : Σ' (v474 : Elt F .f32) (v475 : Elt F .f32) (v477 : F .f32) (v478 : Elt F .f32) (v479 : Elt F .f32), FVec F S256x256 .f32 ← k0_part17_skel i arg1 harg1 hbX (Memref.isWhole_whole _) hbO (Memref.isWhole_whole _) scX (Memref.isWhole_whole _) scO (Memref.isWhole_whole _) cc0_scratch2 cc0_scratch3 v202 v203 v456 cst_281
      let v518 : FVec F S256x256 .f32 ← k0_part18_skel i arg1 harg1 hbX (Memref.isWhole_whole _) hbO (Memref.isWhole_whole _) scX (Memref.isWhole_whole _) scO (Memref.isWhole_whole _) cc0_scratch2 cc0_scratch3 v474 v486
      let ⟨v550, v554, v555⟩ : Σ' (v550 : FVec F S256x256 .f32) (v554 : FVec F S256x256 .f32), FVec F S256x256 .f32 ← k0_part19_skel i arg1 harg1 hbX (Memref.isWhole_whole _) hbO (Memref.isWhole_whole _) scX (Memref.isWhole_whole _) scO (Memref.isWhole_whole _) cc0_scratch2 cc0_scratch3 v474 v518
      let v590 : FVec F S256x256 .f32 ← k0_part20_skel i arg1 harg1 hbX (Memref.isWhole_whole _) hbO (Memref.isWhole_whole _) scX (Memref.isWhole_whole _) scO (Memref.isWhole_whole _) cc0_scratch2 cc0_scratch3 v474 v550 v554 v555
      let v622 : FVec F S256x256 .f32 ← k0_part21_skel i arg1 harg1 hbX (Memref.isWhole_whole _) hbO (Memref.isWhole_whole _) scX (Memref.isWhole_whole _) scO (Memref.isWhole_whole _) cc0_scratch2 cc0_scratch3 v474 v590
      let v668 : FVec F S256x256 .f32 ← k0_part22_skel i arg1 harg1 hbX (Memref.isWhole_whole _) hbO (Memref.isWhole_whole _) scX (Memref.isWhole_whole _) scO (Memref.isWhole_whole _) cc0_scratch2 cc0_scratch3 v474 v475 v477 v622
      let v701 : FVec F S256x256 .f32 ← k0_part23_skel i arg1 harg1 hbX (Memref.isWhole_whole _) hbO (Memref.isWhole_whole _) scX (Memref.isWhole_whole _) scO (Memref.isWhole_whole _) cc0_scratch2 cc0_scratch3 v474 v478 v479 v668
      let v739 : FVec F S256x256 .f32 ← k0_part24_skel i arg1 harg1 hbX (Memref.isWhole_whole _) hbO (Memref.isWhole_whole _) scX (Memref.isWhole_whole _) scO (Memref.isWhole_whole _) cc0_scratch2 cc0_scratch3 v474 v478 v479 v668 v701
      let ⟨v771, cst_478⟩ : Σ' (v771 : FVec F S256x256 .f32), F .f32 ← k0_part25_skel i arg1 harg1 hbX (Memref.isWhole_whole _) hbO (Memref.isWhole_whole _) scX (Memref.isWhole_whole _) scO (Memref.isWhole_whole _) cc0_scratch2 cc0_scratch3 v474 v478 v479 v668 v739
      k0_part26_skel i arg1 harg1 hbX (Memref.isWhole_whole _) hbO (Memref.isWhole_whole _) scX (Memref.isWhole_whole _) scO (Memref.isWhole_whole _) cc0_scratch2 cc0_scratch3 v474 v478 v479 v668 v771 cst_478
      let v840 : FVec F S256x256 .f32 ← k0_part27_skel i arg1 harg1 hbX (Memref.isWhole_whole _) hbO (Memref.isWhole_whole _) scX (Memref.isWhole_whole _) scO (Memref.isWhole_whole _) cc0_scratch2 cc0_scratch3 v474 v478 v479 v668
      let ⟨v872, v873⟩ : Σ' (v872 : FVec F S256x256 .f32), FVec F S256x256 .f32 ← k0_part28_skel i arg1 harg1 hbX (Memref.isWhole_whole _) hbO (Memref.isWhole_whole _) scX (Memref.isWhole_whole _) scO (Memref.isWhole_whole _) cc0_scratch2 cc0_scratch3 v474 v478 v479 v668 v840
      let v906 : FVec F S256x256 .f32 ← k0_part29_skel i arg1 harg1 hbX (Memref.isWhole_whole _) hbO (Memref.isWhole_whole _) scX (Memref.isWhole_whole _) scO (Memref.isWhole_whole _) cc0_scratch2 cc0_scratch3 v474 v478 v479 v668 v872 v873
      k0_part30_skel i arg1 harg1 hbX (Memref.isWhole_whole _) hbO (Memref.isWhole_whole _) scX (Memref.isWhole_whole _) scO (Memref.isWhole_whole _) cc0_scratch2 cc0_scratch3 v474 v478 v479 v668 v906
      let v975 : FVec F S256x256 .f32 ← k0_part31_skel i arg1 harg1 hbX (Memref.isWhole_whole _) hbO (Memref.isWhole_whole _) scX (Memref.isWhole_whole _) scO (Memref.isWhole_whole _) cc0_scratch2 cc0_scratch3 v474 v478 v479 v668
      let ⟨v1007, v1008⟩ : Σ' (v1007 : FVec F S256x256 .f32), FVec F S256x256 .f32 ← k0_part32_skel i arg1 harg1 hbX (Memref.isWhole_whole _) hbO (Memref.isWhole_whole _) scX (Memref.isWhole_whole _) scO (Memref.isWhole_whole _) cc0_scratch2 cc0_scratch3 v474 v478 v479 v668 v975
      k0_part33_skel i arg1 harg1 hbX (Memref.isWhole_whole _) hbO (Memref.isWhole_whole _) scX (Memref.isWhole_whole _) scO (Memref.isWhole_whole _) cc0_scratch2 cc0_scratch3 v474 v478 v479 v668 v1007 v1008
      let v1079 : FVec F S1x256x256 .f32 ← k0_part34_skel i arg1 harg1 hbX (Memref.isWhole_whole _) hbO (Memref.isWhole_whole _) scX (Memref.isWhole_whole _) scO (Memref.isWhole_whole _) cc0_scratch2 cc0_scratch3 v474 v478 v479 v668
      let v1075 : Memref sig .tc .vmem S1x36x256x256 .f32 := scO.slice (Rect.unit (s := S2x36x256x256) (k0_off5 i) S1x36x256x256.size (k0_off5_inb i)) (fun _ => rfl)
      let v1076 : Memref sig .tc .vmem S36x256x256 .f32 := v1075.squeeze S36x256x256 squeezes_S1x36x256x256_S36x256x256
      Prog.lift (.store v1076 (Rect.unit (s := S36x256x256) ![35, 0, 0] S1x256x256.size inb_S36x256x256_S1x256x256_35_0_0) v1079 Finset.univ (View.stores_vmem_bits_univ h_S1x256x256 rfl) (.inl rfl))
      let v1080 : DmaSems sig S1x1 := cc0_scratch3.slice (Rect.unit (s := S2x5) (k0_off34 i) S1x1.size (k0_off34_inb i))
      let v1081 : DmaSems sig S_ := v1080.squeeze S_ squeezes_S1x1_S_
      let v1082 : Memref sig .tc .hbm S1x7x256x256 .f32 := hbO.slice (Rect.unit (s := S8x36x256x256) (k0_off35 i) S1x7x256x256.size (k0_off35_inb i)) (fun _ => rfl)
      let v1083 : Memref sig .tc .hbm S7x256x256 .f32 := v1082.squeeze S7x256x256 squeezes_S1x7x256x256_S7x256x256
      let v1084 : Memref sig .tc .vmem S1x7x256x256 .f32 := scO.slice (Rect.unit (s := S2x36x256x256) (k0_off36 i) S1x7x256x256.size (k0_off36_inb i)) (fun _ => rfl)
      let v1085 : Memref sig .tc .vmem S7x256x256 .f32 := v1084.squeeze S7x256x256 squeezes_S1x7x256x256_S7x256x256
      Prog.lift (.enqueueDma v1085 (.here v1083) (.dma v1081.sem) ((View.wordExact_bits rfl).reshape _ _) ((View.wordExact_bits rfl).reshape _ _) ⟨Or.inl rfl, trivial⟩)
      T

set_option maxHeartbeats 40000000 in
set_option sl_exec.dmaWindow true in
/-- From the image in its slot and the writing slot and its semaphores free: the image is computed, run by run, and a copy
    of every run is in flight. -/
theorem compute (c : Dev nD) (i : grid0.Coords) (arg1 : Memref sig .tc .smem S22 .f32) (harg1 : arg1.IsWhole) (fp : BufOf (F := F) c arg1) (qx : PosShare TreeShare) (fx : BufOf (F := F) c (xs i))
   (fo0 fo1 fo2 fo3 fo4 : BufOf (F := F) c (os i)) (g0 g1 g2 g3 g4 G : BufOf (F := F) c hbO)
   (hG0 : ∀ x, (pc0 i).view.read (Elt F) G x = Channel.outImage (arg1.view.read (Elt F) fp) ((xs i).view.read (Elt F) fx) (wr0.emb x))
   (hG1 : ∀ x, (pc1 i).view.read (Elt F) G x = Channel.outImage (arg1.view.read (Elt F) fp) ((xs i).view.read (Elt F) fx) (wr1.emb x))
   (hG2 : ∀ x, (pc2 i).view.read (Elt F) G x = Channel.outImage (arg1.view.read (Elt F) fp) ((xs i).view.read (Elt F) fx) (wr2.emb x))
   (hG3 : ∀ x, (pc3 i).view.read (Elt F) G x = Channel.outImage (arg1.view.read (Elt F) fp) ((xs i).view.read (Elt F) fx) (wr3.emb x))
   (hG4 : ∀ x, (pc4 i).view.read (Elt F) G x = Channel.outImage (arg1.view.read (Elt F) fp) ((xs i).view.read (Elt F) fx) (wr4.emb x))
   (W : Waits sig Unit) (T : Prog (TpuEff nD τ sig (Elt F) Λ₀ .tc) PUnit) (K : PUnit → sProp 𝕄) :
   iprop((arg1.view.loc (c : Thread nD τ) ↦{fullShare} fp) ∗ ((xs i).view.loc (c : Thread nD τ) ↦[(xs i).view.set]{qx} fx)
     ∗ ((os i).view.loc (c : Thread nD τ) ↦[(os i).view.setOn (wr0).set]{fullShare} fo0)
     ∗ ((os i).view.loc (c : Thread nD τ) ↦[(os i).view.setOn (wr1).set]{fullShare} fo1)
     ∗ ((os i).view.loc (c : Thread nD τ) ↦[(os i).view.setOn (wr2).set]{fullShare} fo2)
     ∗ ((os i).view.loc (c : Thread nD τ) ↦[(os i).view.setOn (wr3).set]{fullShare} fo3)
     ∗ ((os i).view.loc (c : Thread nD τ) ↦[(os i).view.setOn (wr4).set]{fullShare} fo4)
     ∗ ((pc0 i).view.loc (c : Thread nD τ) ↦[(pc0 i).view.set]{fullShare} g0) ∗ semVal ((c : Thread nD τ), SemLoc.dma (wc0 i).sem) 0
     ∗ ((pc1 i).view.loc (c : Thread nD τ) ↦[(pc1 i).view.set]{fullShare} g1) ∗ semVal ((c : Thread nD τ), SemLoc.dma (wc1 i).sem) 0
     ∗ ((pc2 i).view.loc (c : Thread nD τ) ↦[(pc2 i).view.set]{fullShare} g2) ∗ semVal ((c : Thread nD τ), SemLoc.dma (wc2 i).sem) 0
     ∗ ((pc3 i).view.loc (c : Thread nD τ) ↦[(pc3 i).view.set]{fullShare} g3) ∗ semVal ((c : Thread nD τ), SemLoc.dma (wc3 i).sem) 0
     ∗ ((pc4 i).view.loc (c : Thread nD τ) ↦[(pc4 i).view.set]{fullShare} g4) ∗ semVal ((c : Thread nD τ), SemLoc.dma (wc4 i).sem) 0
     ∗ owes (c : Thread nD τ) 0 W
     ∗ (iprop((arg1.view.loc (c : Thread nD τ) ↦{fullShare} fp) ∗ ((xs i).view.loc (c : Thread nD τ) ↦[(xs i).view.set]{qx} fx)
       ∗ Transfers.Flight countersEmb (c : Thread nD τ) (SemLoc.dma (wc0 i).sem) default 49152 (delivers0 c i G)
       ∗ Transfers.Flight countersEmb (c : Thread nD τ) (SemLoc.dma (wc1 i).sem) default 73728 (delivers1 c i G)
       ∗ Transfers.Flight countersEmb (c : Thread nD τ) (SemLoc.dma (wc2 i).sem) default 57344 (delivers2 c i G)
       ∗ Transfers.Flight countersEmb (c : Thread nD τ) (SemLoc.dma (wc3 i).sem) default 57344 (delivers3 c i G)
       ∗ Transfers.Flight countersEmb (c : Thread nD τ) (SemLoc.dma (wc4 i).sem) default 57344 (delivers4 c i G)
       ∗ owes (c : Thread nD τ) 0 W) -∗ wp frame (wpE (defs₀ (F := F)) Variants.none c none) Set.univ T K))
   ⊢ wp frame (wpE (defs₀ (F := F)) Variants.none c none) Set.univ (computeP i arg1 harg1 (Channel.param (arg1.view.read (Elt F) fp) 0) (Channel.scaled (Channel.param (arg1.view.read (Elt F) fp) 1)) (Channel.param (arg1.view.read (Elt F) fp) 2) (Channel.param (arg1.view.read (Elt F) fp) 3) (k0_pay2 (Channel.chan ((xs i).view.read (Elt F) fx) 0)) T) K := by
  unfold computeP
  iintro ⟨Hp, Hx, Ho0, Ho1, Ho2, Ho3, Ho4, Hg0, Hs0, Hg1, Hs1, Hg2, Hs2, Hg3, Hs3, Hg4, Hs4, HW, Hk⟩
  sl_exec
  ihave Ht0 := (toTile0 c i _) $$ Ho0
  sl_exec
  ihave Ht1 := (toTile1 c i _) $$ Ho1
  sl_exec
  ihave Ht2 := (toTile2 c i _) $$ Ho2
  sl_exec
  ihave Ht3 := (toTile3 c i _) $$ Ho3
  sl_exec
  ihave Ht4 := (toTile4 c i _) $$ Ho4
  sl_exec
  iapply Hk
  isplitl [Hp]; · iexact Hp
  isplitl [Hx]; · iexact Hx
  isplitl [Hs0]
  · iapply (Transfers.Flight_mono countersEmb (c : Thread nD τ) (deliver0 c i (arg1.view.read (Elt F) fp) ((xs i).view.read (Elt F) fx) _ G _ _ ?_ _ ?_ hG0)) $$ Hs0
    · exact .cons 5 _ _ rfl (.cons 4 _ _ rfl (.cons 3 _ _ rfl (.cons 2 _ _ rfl (.cons 1 _ _ rfl (.cons 0 _ _ rfl (.nil))))))
    · rfl
  isplitl [Hs1]
  · iapply (Transfers.Flight_mono countersEmb (c : Thread nD τ) (deliver1 c i (arg1.view.read (Elt F) fp) ((xs i).view.read (Elt F) fx) _ G _ _ ?_ _ ?_ hG1)) $$ Hs1
    · exact .cons 14 _ _ rfl (.cons 13 _ _ rfl (.cons 12 _ _ rfl (.cons 11 _ _ rfl (.cons 10 _ _ rfl (.cons 9 _ _ rfl (.cons 8 _ _ rfl (.cons 7 _ _ rfl (.cons 6 _ _ rfl (.nil)))))))))
    · rfl
  isplitl [Hs2]
  · iapply (Transfers.Flight_mono countersEmb (c : Thread nD τ) (deliver2 c i (arg1.view.read (Elt F) fp) ((xs i).view.read (Elt F) fx) _ G _ _ ?_ _ ?_ hG2)) $$ Hs2
    · exact .cons 21 _ _ rfl (.cons 20 _ _ rfl (.cons 19 _ _ rfl (.cons 18 _ _ rfl (.cons 17 _ _ rfl (.cons 16 _ _ rfl (.cons 15 _ _ rfl (.nil)))))))
    · rfl
  isplitl [Hs3]
  · iapply (Transfers.Flight_mono countersEmb (c : Thread nD τ) (deliver3 c i (arg1.view.read (Elt F) fp) ((xs i).view.read (Elt F) fx) _ G _ _ ?_ _ ?_ hG3)) $$ Hs3
    · exact .cons 28 _ _ rfl (.cons 27 _ _ rfl (.cons 26 _ _ rfl (.cons 25 _ _ rfl (.cons 24 _ _ rfl (.cons 23 _ _ rfl (.cons 22 _ _ rfl (.nil)))))))
    · rfl
  isplitl [Hs4]
  · iapply (Transfers.Flight_mono countersEmb (c : Thread nD τ) (deliver4 c i (arg1.view.read (Elt F) fp) ((xs i).view.read (Elt F) fx) _ G _ _ ?_ _ ?_ hG4)) $$ Hs4
    · exact .cons 35 _ _ rfl (.cons 34 _ _ rfl (.cons 33 _ _ rfl (.cons 32 _ _ rfl (.cons 31 _ _ rfl (.cons 30 _ _ rfl (.cons 29 _ _ rfl (.nil)))))))
    · rfl
  iexact HW

end Cert.KernelIdeal.Ring

end
-- ==== Proof.Whole.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.Phases
public import proofs.«01_k».proof.Proof.Compute

@[expose] public section

set_option maxRecDepth 16384

/-! # The printed body is its phases in order -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

set_option maxHeartbeats 4000000 in
set_option maxRecDepth 65536 in
/-- The body of a grid point: start, prefetch, await the image, await the old copies, load, compute, finish. -/
theorem kernel_eq (i : grid0.Coords) (arg1 : Memref sig .tc .smem S22 .f32) (harg1 : arg1.IsWhole) :
    cc0__zernike_kernel (F := F) i arg1 harg1 hbX (Memref.isWhole_whole _) hbO (Memref.isWhole_whole _) scX (Memref.isWhole_whole _) scO (Memref.isWhole_whole _) cc0_scratch2 cc0_scratch3
      = ((do startP i; prefetchP i; awaitP i; awaitOldP i arg1 harg1; loadP i arg1 harg1) >>= fun r =>
          computeP i arg1 harg1 r.2.1 r.2.2.1 r.2.2.2.1 r.2.2.2.2.1 r.2.2.2.2.2 (finishP i arg1 harg1)) := by
  rw [← part4_eq, cc0__zernike_kernel_eq_skeleton]
  unfold cc0__zernike_kernel_skel computeP finishP
  by_cases h4 : k0_cond4 i = 1#1 <;> simp only [h4, ↓reduceDIte] <;> rfl

end Cert.KernelIdeal.Ring

end
-- ==== Proof.Cells.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.Phases
public import proofs.«01_k».proof.Proof.Boxes

@[expose] public section

set_option maxRecDepth 16384

/-! # The elements a grid point touches, by image and channel -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

/-- An array of `N` images of 36 channels. -/
abbrev Big (N : ℕ) : Shape := ⟨4, ![N, 36, 256, 256]⟩

/-- A leading axis of one adds no elements. -/
theorem numel_drop (n : ℕ) : (⟨3, ![n, 256, 256]⟩ : Shape).numel = (⟨4, ![1, n, 256, 256]⟩ : Shape).numel := by
  simp only [Shape.numel, Fin.prod_univ_succ, Fin.prod_univ_zero]
  show n * (256 * (256 * 1)) = 1 * (n * (256 * (256 * 1)))
  omega

/-- The elements of channels `k … k+n-1` of image `o`. -/
def box (N o k n : ℕ) : Finset (Big N).Idx :=
  Finset.univ.filter fun y => (y 0).val = o ∧ k ≤ (y 1).val ∧ (y 1).val < k + n

theorem mem_box {N o k n : ℕ} {y : (Big N).Idx} : y ∈ box N o k n ↔ (y 0).val = o ∧ k ≤ (y 1).val ∧ (y 1).val < k + n := by
  simp only [box, Finset.mem_filter, Finset.mem_univ, true_and]

/-- The elements of a slice of one image's channels, its leading axis dropped. -/
theorem set_box {κ : Kind} {sp : Space} {e : EltTy} {N o k n : ℕ} (v : View sig κ sp (Big N) e) (off : Fin 4 → ℕ) (hoff : off = ![o, k, 0, 0])
    (inb : ∀ a, off a + (![1, n, 256, 256] : Fin 4 → ℕ) a ≤ (Big N).size a) (s' : Shape) (h : s'.numel = (⟨4, ![1, n, 256, 256]⟩ : Shape).numel) :
    ((v.slice (Rect.unit (s := Big N) off ![1, n, 256, 256] inb)).reshape s' h).set = (box N o k n).map v.emb := by
  subst hoff
  rw [View.set_reshape, View.set_slice]
  congr 1
  ext y
  rw [Boxes.mem_unit, mem_box]
  have h2 : (y 2).val < 256 := (y 2).isLt
  have h3 : (y 3).val < 256 := (y 3).isLt
  constructor
  · intro hy
    have q0 : o ≤ (y 0).val ∧ (y 0).val < o + 1 := hy 0
    have q1 : k ≤ (y 1).val ∧ (y 1).val < k + n := hy 1
    omega
  · rintro ⟨q0, q1, q2⟩ a
    fin_cases a
    · show o ≤ (y 0).val ∧ (y 0).val < o + 1
      omega
    · exact ⟨q1, q2⟩
    · show 0 ≤ (y 2).val ∧ (y 2).val < 0 + 256
      omega
    · show 0 ≤ (y 3).val ∧ (y 3).val < 0 + 256
      omega

/-- Element `x` of image `b` in the array of all images. -/
def lead {N : ℕ} (b : Fin N) (x : S36x256x256.Idx) : (Big N).Idx
  | ⟨0, _⟩ => b
  | ⟨1, _⟩ => x 0
  | ⟨2, _⟩ => x 1
  | ⟨3, _⟩ => x 2

/-- An element's place in its image. -/
def place {N : ℕ} (y : (Big N).Idx) : S36x256x256.Idx
  | ⟨0, _⟩ => y 1
  | ⟨1, _⟩ => y 2
  | ⟨2, _⟩ => y 3

/-- The place of an element of a run of channels. -/
def shiftBy (k : ℕ) {n : ℕ} (hk : k + n ≤ 36) (x : (⟨3, ![n, 256, 256]⟩ : Shape).Idx) : S36x256x256.Idx
  | ⟨0, _⟩ => ⟨k + (x 0).val, by have : (x 0).val < n := (x 0).isLt; show k + (x 0).val < 36; omega⟩
  | ⟨1, _⟩ => x 1
  | ⟨2, _⟩ => x 2

/-- Where an element of a run of one image's channels sits in the array. -/
theorem emb_box {κ : Kind} {sp : Space} {e : EltTy} {N k n : ℕ} (b : Fin N) (hk : k + n ≤ 36) (v : View sig κ sp (Big N) e) (off : Fin 4 → ℕ) (hoff : off = ![b.val, k, 0, 0])
    (inb : ∀ a, off a + (![1, n, 256, 256] : Fin 4 → ℕ) a ≤ (Big N).size a) (h : (⟨3, ![n, 256, 256]⟩ : Shape).numel = (⟨4, ![1, n, 256, 256]⟩ : Shape).numel)
    (x : (⟨3, ![n, 256, 256]⟩ : Shape).Idx) :
    ((v.slice (Rect.unit (s := Big N) off ![1, n, 256, 256] inb)).reshape ⟨3, ![n, 256, 256]⟩ h).emb x = v.emb (lead b (shiftBy k hk x)) := by
  subst hoff
  show v.emb ((Rect.unit (s := Big N) ![b.val, k, 0, 0] ![1, n, 256, 256] inb).emb (Shape.reshapeEquiv h x)) = _
  congr 1
  rw [Shape.reshapeEquiv_cons_one]
  funext a
  apply Fin.ext
  fin_cases a
  · show b.val + 1 * 0 = b.val
    omega
  · show k + 1 * (x 0).val = k + (x 0).val
    omega
  · show 0 + 1 * (x 1).val = (x 1).val
    omega
  · show 0 + 1 * (x 2).val = (x 2).val
    omega

theorem N_eq : grid0.N = 8 := N_0

/-- The image a point computes. -/
abbrev im (t : Fin grid0.N) : Fin 8 := ⟨t.val, lt_of_lt_of_eq t.isLt N_0⟩

/-- The slot a point's image is read into and its result is written from. -/
abbrev half (t : ℕ) : Fin 2 := ⟨t % 2, Nat.mod_lt _ (by decide)⟩

theorem off5_at : ∀ t : Fin grid0.N, k0_off5 (grid0.coords t) = ![t.val % 2, 0, 0, 0] := by decide
theorem off6_at : ∀ t : Fin grid0.N, k0_off6 (grid0.coords t) = ![t.val, 0, 0, 0] := by decide
theorem off2_at : ∀ t : Fin grid0.N, t.val < 7 → k0_off2 (grid0.coords t) = ![(t.val + 1) % 2, 0, 0, 0] := by decide
theorem off3_at : ∀ t : Fin grid0.N, t.val < 7 → k0_off3 (grid0.coords t) = ![t.val + 1, 0, 0, 0] := by decide
theorem off23_at : ∀ t : Fin grid0.N, k0_off23 (grid0.coords t) = ![t.val, 0, 0, 0] := by decide
theorem off24_at : ∀ t : Fin grid0.N, k0_off24 (grid0.coords t) = ![t.val % 2, 0, 0, 0] := by decide
theorem off26_at : ∀ t : Fin grid0.N, k0_off26 (grid0.coords t) = ![t.val, 6, 0, 0] := by decide
theorem off27_at : ∀ t : Fin grid0.N, k0_off27 (grid0.coords t) = ![t.val % 2, 6, 0, 0] := by decide
theorem off29_at : ∀ t : Fin grid0.N, k0_off29 (grid0.coords t) = ![t.val, 15, 0, 0] := by decide
theorem off30_at : ∀ t : Fin grid0.N, k0_off30 (grid0.coords t) = ![t.val % 2, 15, 0, 0] := by decide
theorem off32_at : ∀ t : Fin grid0.N, k0_off32 (grid0.coords t) = ![t.val, 22, 0, 0] := by decide
theorem off33_at : ∀ t : Fin grid0.N, k0_off33 (grid0.coords t) = ![t.val % 2, 22, 0, 0] := by decide
theorem off35_at : ∀ t : Fin grid0.N, k0_off35 (grid0.coords t) = ![t.val, 29, 0, 0] := by decide
theorem off36_at : ∀ t : Fin grid0.N, k0_off36 (grid0.coords t) = ![t.val % 2, 29, 0, 0] := by decide
theorem cond1_at : ∀ t : Fin grid0.N, cond1 (grid0.coords t) = 1#1 ↔ t.val = 0 := by decide
theorem cond2_at : ∀ t : Fin grid0.N, k0_cond2 (grid0.coords t) = 1#1 ↔ t.val < 7 := by decide
theorem cond3_at : ∀ t : Fin grid0.N, k0_cond3 (grid0.coords t) = 1#1 ↔ 2 ≤ t.val := by decide
theorem cond4_at : ∀ t : Fin grid0.N, k0_cond4 (grid0.coords t) = 1#1 ↔ t.val = 7 := by decide

/-- The semaphore of the copies into slot `p`. -/
def inS (p : ℕ) : SemLoc sig := (![SemLoc.dma 1, SemLoc.dma 2] : Fin 2 → SemLoc sig) (half p)

/-- The semaphore of the copies out of run `j` of slot `p`. -/
def outS (p : ℕ) (j : Fin 5) : SemLoc sig :=
  (![![SemLoc.dma 3, SemLoc.dma 4, SemLoc.dma 5, SemLoc.dma 6, SemLoc.dma 7], ![SemLoc.dma 8, SemLoc.dma 9, SemLoc.dma 10, SemLoc.dma 11, SemLoc.dma 12]] : Fin 2 → Fin 5 → SemLoc sig) (half p) j

theorem startS_at : SemLoc.dma ((cc0_scratch2.slice (Rect.unit (s := S2) ![0] S1.size inb_S2_S1_0)).squeeze S_ squeezes_S1_S_).sem = inS 0 := by decide
theorem nextS_at : ∀ (t : Fin grid0.N) (h : k0_cond2 (grid0.coords t) = 1#1), SemLoc.dma ((cc0_scratch2.slice (Rect.unit (s := S2) (k0_off1 (grid0.coords t)) S1.size (k0_off1_inb (grid0.coords t) h))).squeeze S_ squeezes_S1_S_).sem = inS (t.val + 1) := by decide
theorem hereS_at : ∀ t : Fin grid0.N, SemLoc.dma ((cc0_scratch2.slice (Rect.unit (s := S2) (k0_off4 (grid0.coords t)) S1.size (k0_off4_inb (grid0.coords t)))).squeeze S_ squeezes_S1_S_).sem = inS t.val := by decide
theorem wc0_at : ∀ t : Fin grid0.N, SemLoc.dma (wc0 (grid0.coords t)).sem = outS t.val 0 := by decide
theorem wc1_at : ∀ t : Fin grid0.N, SemLoc.dma (wc1 (grid0.coords t)).sem = outS t.val 1 := by decide
theorem wc2_at : ∀ t : Fin grid0.N, SemLoc.dma (wc2 (grid0.coords t)).sem = outS t.val 2 := by decide
theorem wc3_at : ∀ t : Fin grid0.N, SemLoc.dma (wc3 (grid0.coords t)).sem = outS t.val 3 := by decide
theorem wc4_at : ∀ t : Fin grid0.N, SemLoc.dma (wc4 (grid0.coords t)).sem = outS t.val 4 := by decide
theorem old0_at : ∀ (t : Fin grid0.N) (h : k0_cond3 (grid0.coords t) = 1#1), SemLoc.dma ((cc0_scratch3.slice (Rect.unit (s := S2x5) (k0_off7 (grid0.coords t)) S1x1.size (k0_off7_inb (grid0.coords t) h))).squeeze S_ squeezes_S1x1_S_).sem = outS t.val 0 := by decide
theorem old1_at : ∀ (t : Fin grid0.N) (h : k0_cond3 (grid0.coords t) = 1#1), SemLoc.dma ((cc0_scratch3.slice (Rect.unit (s := S2x5) (k0_off10 (grid0.coords t)) S1x1.size (k0_off10_inb (grid0.coords t) h))).squeeze S_ squeezes_S1x1_S_).sem = outS t.val 1 := by decide
theorem old2_at : ∀ (t : Fin grid0.N) (h : k0_cond3 (grid0.coords t) = 1#1), SemLoc.dma ((cc0_scratch3.slice (Rect.unit (s := S2x5) (k0_off13 (grid0.coords t)) S1x1.size (k0_off13_inb (grid0.coords t) h))).squeeze S_ squeezes_S1x1_S_).sem = outS t.val 2 := by decide
theorem old3_at : ∀ (t : Fin grid0.N) (h : k0_cond3 (grid0.coords t) = 1#1), SemLoc.dma ((cc0_scratch3.slice (Rect.unit (s := S2x5) (k0_off16 (grid0.coords t)) S1x1.size (k0_off16_inb (grid0.coords t) h))).squeeze S_ squeezes_S1x1_S_).sem = outS t.val 3 := by decide
theorem old4_at : ∀ (t : Fin grid0.N) (h : k0_cond3 (grid0.coords t) = 1#1), SemLoc.dma ((cc0_scratch3.slice (Rect.unit (s := S2x5) (k0_off19 (grid0.coords t)) S1x1.size (k0_off19_inb (grid0.coords t) h))).squeeze S_ squeezes_S1x1_S_).sem = outS t.val 4 := by decide
theorem fin00_at : ∀ (t : Fin grid0.N) (h : k0_cond4 (grid0.coords t) = 1#1), SemLoc.dma ((cc0_scratch3.slice (Rect.unit (s := S2x5) (k0_off37 (grid0.coords t)) S1x1.size (k0_off37_inb (grid0.coords t) h))).squeeze S_ squeezes_S1x1_S_).sem = outS 1 0 := by decide
theorem fin01_at : ∀ (t : Fin grid0.N) (h : k0_cond4 (grid0.coords t) = 1#1), SemLoc.dma ((cc0_scratch3.slice (Rect.unit (s := S2x5) (k0_off40 (grid0.coords t)) S1x1.size (k0_off40_inb (grid0.coords t) h))).squeeze S_ squeezes_S1x1_S_).sem = outS 0 0 := by decide
theorem fin10_at : ∀ (t : Fin grid0.N) (h : k0_cond4 (grid0.coords t) = 1#1), SemLoc.dma ((cc0_scratch3.slice (Rect.unit (s := S2x5) (k0_off43 (grid0.coords t)) S1x1.size (k0_off43_inb (grid0.coords t) h))).squeeze S_ squeezes_S1x1_S_).sem = outS 1 1 := by decide
theorem fin11_at : ∀ (t : Fin grid0.N) (h : k0_cond4 (grid0.coords t) = 1#1), SemLoc.dma ((cc0_scratch3.slice (Rect.unit (s := S2x5) (k0_off46 (grid0.coords t)) S1x1.size (k0_off46_inb (grid0.coords t) h))).squeeze S_ squeezes_S1x1_S_).sem = outS 0 1 := by decide
theorem fin20_at : ∀ (t : Fin grid0.N) (h : k0_cond4 (grid0.coords t) = 1#1), SemLoc.dma ((cc0_scratch3.slice (Rect.unit (s := S2x5) (k0_off49 (grid0.coords t)) S1x1.size (k0_off49_inb (grid0.coords t) h))).squeeze S_ squeezes_S1x1_S_).sem = outS 1 2 := by decide
theorem fin21_at : ∀ (t : Fin grid0.N) (h : k0_cond4 (grid0.coords t) = 1#1), SemLoc.dma ((cc0_scratch3.slice (Rect.unit (s := S2x5) (k0_off52 (grid0.coords t)) S1x1.size (k0_off52_inb (grid0.coords t) h))).squeeze S_ squeezes_S1x1_S_).sem = outS 0 2 := by decide
theorem fin30_at : ∀ (t : Fin grid0.N) (h : k0_cond4 (grid0.coords t) = 1#1), SemLoc.dma ((cc0_scratch3.slice (Rect.unit (s := S2x5) (k0_off55 (grid0.coords t)) S1x1.size (k0_off55_inb (grid0.coords t) h))).squeeze S_ squeezes_S1x1_S_).sem = outS 1 3 := by decide
theorem fin31_at : ∀ (t : Fin grid0.N) (h : k0_cond4 (grid0.coords t) = 1#1), SemLoc.dma ((cc0_scratch3.slice (Rect.unit (s := S2x5) (k0_off58 (grid0.coords t)) S1x1.size (k0_off58_inb (grid0.coords t) h))).squeeze S_ squeezes_S1x1_S_).sem = outS 0 3 := by decide
theorem fin40_at : ∀ (t : Fin grid0.N) (h : k0_cond4 (grid0.coords t) = 1#1), SemLoc.dma ((cc0_scratch3.slice (Rect.unit (s := S2x5) (k0_off61 (grid0.coords t)) S1x1.size (k0_off61_inb (grid0.coords t) h))).squeeze S_ squeezes_S1x1_S_).sem = outS 1 4 := by decide
theorem fin41_at : ∀ (t : Fin grid0.N) (h : k0_cond4 (grid0.coords t) = 1#1), SemLoc.dma ((cc0_scratch3.slice (Rect.unit (s := S2x5) (k0_off64 (grid0.coords t)) S1x1.size (k0_off64_inb (grid0.coords t) h))).squeeze S_ squeezes_S1x1_S_).sem = outS 0 4 := by decide

/-- This point's image, in its slot. -/
theorem xs_set (t : Fin grid0.N) : (xs (grid0.coords t)).view.set = box 2 (t.val % 2) 0 36 :=
  (set_box scX.view (k0_off5 (grid0.coords t)) (off5_at t) (k0_off5_inb (grid0.coords t)) _ (numel_drop _)).trans (Finset.map_refl)
theorem pc0_set (t : Fin grid0.N) : (pc0 (grid0.coords t)).view.set = box 8 t.val 0 6 :=
  (set_box hbO.view (k0_off23 (grid0.coords t)) (off23_at t) (k0_off23_inb (grid0.coords t)) _ (numel_drop _)).trans (Finset.map_refl)
theorem ti0_set (t : Fin grid0.N) : (ti0 (grid0.coords t)).view.set = box 2 (t.val % 2) 0 6 :=
  (set_box scO.view (k0_off24 (grid0.coords t)) (off24_at t) (k0_off24_inb (grid0.coords t)) _ (numel_drop _)).trans (Finset.map_refl)
theorem pc1_set (t : Fin grid0.N) : (pc1 (grid0.coords t)).view.set = box 8 t.val 6 9 :=
  (set_box hbO.view (k0_off26 (grid0.coords t)) (off26_at t) (k0_off26_inb (grid0.coords t)) _ (numel_drop _)).trans (Finset.map_refl)
theorem ti1_set (t : Fin grid0.N) : (ti1 (grid0.coords t)).view.set = box 2 (t.val % 2) 6 9 :=
  (set_box scO.view (k0_off27 (grid0.coords t)) (off27_at t) (k0_off27_inb (grid0.coords t)) _ (numel_drop _)).trans (Finset.map_refl)
theorem pc2_set (t : Fin grid0.N) : (pc2 (grid0.coords t)).view.set = box 8 t.val 15 7 :=
  (set_box hbO.view (k0_off29 (grid0.coords t)) (off29_at t) (k0_off29_inb (grid0.coords t)) _ (numel_drop _)).trans (Finset.map_refl)
theorem ti2_set (t : Fin grid0.N) : (ti2 (grid0.coords t)).view.set = box 2 (t.val % 2) 15 7 :=
  (set_box scO.view (k0_off30 (grid0.coords t)) (off30_at t) (k0_off30_inb (grid0.coords t)) _ (numel_drop _)).trans (Finset.map_refl)
theorem pc3_set (t : Fin grid0.N) : (pc3 (grid0.coords t)).view.set = box 8 t.val 22 7 :=
  (set_box hbO.view (k0_off32 (grid0.coords t)) (off32_at t) (k0_off32_inb (grid0.coords t)) _ (numel_drop _)).trans (Finset.map_refl)
theorem ti3_set (t : Fin grid0.N) : (ti3 (grid0.coords t)).view.set = box 2 (t.val % 2) 22 7 :=
  (set_box scO.view (k0_off33 (grid0.coords t)) (off33_at t) (k0_off33_inb (grid0.coords t)) _ (numel_drop _)).trans (Finset.map_refl)
theorem pc4_set (t : Fin grid0.N) : (pc4 (grid0.coords t)).view.set = box 8 t.val 29 7 :=
  (set_box hbO.view (k0_off35 (grid0.coords t)) (off35_at t) (k0_off35_inb (grid0.coords t)) _ (numel_drop _)).trans (Finset.map_refl)
theorem ti4_set (t : Fin grid0.N) : (ti4 (grid0.coords t)).view.set = box 2 (t.val % 2) 29 7 :=
  (set_box scO.view (k0_off36 (grid0.coords t)) (off36_at t) (k0_off36_inb (grid0.coords t)) _ (numel_drop _)).trans (Finset.map_refl)

/-- Image `b` of an array of images. -/
def img {N : ℕ} (X : (Big N).Idx → Elt F .f32) (b : Fin N) : S36x256x256.Idx → Elt F .f32 := fun x => X (lead b x)

/-- The result array: each image is computed of the image at its place. -/
def result (P : S22.Idx → Elt F .f32) (X : (Big 8).Idx → Elt F .f32) : (Big 8).Idx → Elt F .f32 :=
  fun y => Channel.outImage P (img X (y 0)) (place y)

/-- What a slot reads. -/
theorem xs_read (t : Fin grid0.N) (c : Dev nD) (f : BufOf (F := F) c scX) :
    (xs (grid0.coords t)).view.read (Elt F) f = img (N := 2) f (half t.val) := by
  funext x
  have h := emb_box (k := 0) (half t.val) (by decide) scX.view (k0_off5 (grid0.coords t)) (off5_at t) (k0_off5_inb (grid0.coords t)) (numel_drop _) x
  show f ((xs (grid0.coords t)).view.emb x) = f (lead (half t.val) x)
  refine congrArg f (h.trans ?_)
  show lead (half t.val) _ = lead (half t.val) x
  congr 1
  funext a
  apply Fin.ext
  fin_cases a
  · show 0 + (x 0).val = (x 0).val
    omega
  · rfl
  · rfl
/-- The result read at an element of a run of image `t`'s channels. -/
theorem result_at (P : S22.Idx → Elt F .f32) (X : (Big 8).Idx → Elt F .f32) (b : Fin 8) (k n : ℕ) (hk : k + n ≤ 36) (x : (⟨3, ![n, 256, 256]⟩ : Shape).Idx)
    (inb : ∀ a, (![k, 0, 0] : Fin 3 → ℕ) a + (![n, 256, 256] : Fin 3 → ℕ) a ≤ S36x256x256.size a) :
    result P X (lead b (shiftBy k hk x)) = Channel.outImage P (img X b) ((Rect.unit (s := S36x256x256) ![k, 0, 0] ![n, 256, 256] inb).emb x) := by
  show Channel.outImage P (img X b) (place (lead b (shiftBy k hk x))) = _
  congr 1
  funext a
  apply Fin.ext
  fin_cases a
  · show k + (x 0).val = k + 1 * (x 0).val
    omega
  · show (x 1).val = 0 + 1 * (x 1).val
    omega
  · show (x 2).val = 0 + 1 * (x 2).val
    omega

theorem pc0_read (t : Fin grid0.N) (P : S22.Idx → Elt F .f32) (X : (Big 8).Idx → Elt F .f32) (x) :
    (pc0 (grid0.coords t)).view.read (Elt F) (result P X) x = Channel.outImage P (img X (im t)) (wr0.emb x) :=
  (congrArg (result P X) (emb_box (k := 0) (im t) (by decide) hbO.view (k0_off23 (grid0.coords t)) (off23_at t) (k0_off23_inb (grid0.coords t)) (numel_drop _) x)).trans
    (result_at P X (im t) 0 6 (by decide) x inbW0)
theorem pc1_read (t : Fin grid0.N) (P : S22.Idx → Elt F .f32) (X : (Big 8).Idx → Elt F .f32) (x) :
    (pc1 (grid0.coords t)).view.read (Elt F) (result P X) x = Channel.outImage P (img X (im t)) (wr1.emb x) :=
  (congrArg (result P X) (emb_box (k := 6) (im t) (by decide) hbO.view (k0_off26 (grid0.coords t)) (off26_at t) (k0_off26_inb (grid0.coords t)) (numel_drop _) x)).trans
    (result_at P X (im t) 6 9 (by decide) x inbW1)
theorem pc2_read (t : Fin grid0.N) (P : S22.Idx → Elt F .f32) (X : (Big 8).Idx → Elt F .f32) (x) :
    (pc2 (grid0.coords t)).view.read (Elt F) (result P X) x = Channel.outImage P (img X (im t)) (wr2.emb x) :=
  (congrArg (result P X) (emb_box (k := 15) (im t) (by decide) hbO.view (k0_off29 (grid0.coords t)) (off29_at t) (k0_off29_inb (grid0.coords t)) (numel_drop _) x)).trans
    (result_at P X (im t) 15 7 (by decide) x inbW2)
theorem pc3_read (t : Fin grid0.N) (P : S22.Idx → Elt F .f32) (X : (Big 8).Idx → Elt F .f32) (x) :
    (pc3 (grid0.coords t)).view.read (Elt F) (result P X) x = Channel.outImage P (img X (im t)) (wr3.emb x) :=
  (congrArg (result P X) (emb_box (k := 22) (im t) (by decide) hbO.view (k0_off32 (grid0.coords t)) (off32_at t) (k0_off32_inb (grid0.coords t)) (numel_drop _) x)).trans
    (result_at P X (im t) 22 7 (by decide) x inbW3)
theorem pc4_read (t : Fin grid0.N) (P : S22.Idx → Elt F .f32) (X : (Big 8).Idx → Elt F .f32) (x) :
    (pc4 (grid0.coords t)).view.read (Elt F) (result P X) x = Channel.outImage P (img X (im t)) (wr4.emb x) :=
  (congrArg (result P X) (emb_box (k := 29) (im t) (by decide) hbO.view (k0_off35 (grid0.coords t)) (off35_at t) (k0_off35_inb (grid0.coords t)) (numel_drop _) x)).trans
    (result_at P X (im t) 29 7 (by decide) x inbW4)

end Cert.KernelIdeal.Ring

end
-- ==== Proof.State.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.Whole
public import proofs.«01_k».proof.Proof.Cells

@[expose] public section

set_option maxRecDepth 16384

/-! # What is held between the phases of a grid point -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

/-- The first channel of run `j`. -/
abbrev lo (j : Fin 5) : ℕ := (![0, 6, 15, 22, 29] : Fin 5 → ℕ) j

/-- The channels in run `j`. -/
abbrev len (j : Fin 5) : ℕ := (![6, 9, 7, 7, 7] : Fin 5 → ℕ) j

/-- One of each run. -/
abbrev five (P : Fin 5 → sProp 𝕄) : sProp 𝕄 := iprop(P 0 ∗ P 1 ∗ P 2 ∗ P 3 ∗ P 4)

/-- Slot `b` holds image `b`. -/
def Holds (c : Dev nD) (f : BufOf (F := F) c scX) (X : BufOf (F := F) c hbX) (b : ℕ) : Prop :=
  ∀ hb : b < 8, img (N := 2) f (half b) = img (N := 8) X ⟨b, hb⟩

/-- Some contents in reading slot `p`. -/
def slotX (c : Dev nD) (p : ℕ) : sProp 𝕄 :=
  iprop(∃ f : BufOf (F := F) c scX, scX.view.loc (c : Thread nD τ) ↦[box 2 (p % 2) 0 36]{fullShare} f)

/-- Image `b` in its reading slot. -/
def slotAt (c : Dev nD) (X : BufOf (F := F) c hbX) (b : ℕ) : sProp 𝕄 :=
  iprop(∃ f : BufOf (F := F) c scX, ⌜Holds c f X b⌝ ∗ (scX.view.loc (c : Thread nD τ) ↦[box 2 (b % 2) 0 36]{fullShare} f))

/-- Elements of the array read, at its contents. -/
abbrev srcOn (c : Dev nD) (X : BufOf (F := F) c hbX) (S : Finset (Big 8).Idx) : sProp 𝕄 := (hbX.view.loc (c : Thread nD τ) ↦[S]{fullShare} X)

/-- Elements of the array written, at given contents. -/
abbrev dstOn (c : Dev nD) (G : BufOf (F := F) c hbO) (S : Finset (Big 8).Idx) : sProp 𝕄 := (hbO.view.loc (c : Thread nD τ) ↦[S]{fullShare} G)

/-- Some contents in run `j` of writing slot `p`. -/
def tile (c : Dev nD) (p : ℕ) (k n : ℕ) : sProp 𝕄 :=
  iprop(∃ f : BufOf (F := F) c scO, scO.view.loc (c : Thread nD τ) ↦[box 2 (p % 2) k n]{fullShare} f)

/-- Reading slot `p` free, its semaphore at zero. -/
def freeX (c : Dev nD) (p : ℕ) : sProp 𝕄 := iprop(slotX (F := F) c p ∗ semVal ((c : Thread nD τ), inS p) 0)

/-- The copy of image `b` into its slot in flight. -/
def flX (c : Dev nD) (X : BufOf (F := F) c hbX) (b : ℕ) : sProp 𝕄 :=
  Transfers.Flight countersEmb (c : Thread nD τ) (inS b) default 294912 iprop(slotAt c X b ∗ srcOn c X (box 8 b 0 36))

/-- Writing slot `p` free, its semaphores at zero. -/
def freeO (c : Dev nD) (p : ℕ) : sProp 𝕄 :=
  five fun j => iprop(tile (F := F) c p (lo j) (len j) ∗ semVal ((c : Thread nD τ), outS p j) 0)

/-- What the copy out of run `j` of image `b` delivers: its place in the result, and the tile back. -/
def runAt (c : Dev nD) (G : BufOf (F := F) c hbO) (b : ℕ) (j : Fin 5) : sProp 𝕄 :=
  iprop(dstOn c G (box 8 b (lo j) (len j)) ∗ tile (F := F) c b (lo j) (len j))

/-- The copy out of run `j` of image `b` in flight, of `n` units. -/
abbrev outFl (c : Dev nD) (G : BufOf (F := F) c hbO) (b : ℕ) (j : Fin 5) (n : ℕ) : sProp 𝕄 :=
  Transfers.Flight countersEmb (c : Thread nD τ) (outS b j) default n (runAt c G b j)

/-- The copies out of image `b` in flight. -/
def flO (c : Dev nD) (G : BufOf (F := F) c hbO) (b : ℕ) : sProp 𝕄 :=
  iprop(outFl c G b 0 49152 ∗ outFl c G b 1 73728 ∗ outFl c G b 2 57344 ∗ outFl c G b 3 57344 ∗ outFl c G b 4 57344)

theorem half_sub {b : ℕ} (h : 2 ≤ b) : half (b - 2) = half b := Fin.ext (by show (b - 2) % 2 = b % 2; omega)

/-! ### Splitting an image into its runs -/

theorem box_union (N o k n m : ℕ) : box N o k (n + m) = box N o k n ∪ box N o (k + n) m := by
  ext y
  rw [Finset.mem_union, mem_box, mem_box, mem_box]
  omega

theorem box_disjoint (N o k n m : ℕ) : Disjoint (box N o k n) (box N o (k + n) m) := by
  rw [Finset.disjoint_left]
  intro y h h'
  rw [mem_box] at h h'
  omega

theorem dst_split (c : Dev nD) (G : BufOf (F := F) c hbO) (o k n m : ℕ) :
    dstOn c G (box 8 o k (n + m)) ⊣⊢ iprop(dstOn c G (box 8 o k n) ∗ dstOn c G (box 8 o (k + n) m)) := by
  unfold dstOn
  rw [box_union]
  exact pointsTo_union (box_disjoint 8 o k n m)

theorem tile_split (c : Dev nD) (p k n m : ℕ) :
    tile (F := F) c p k (n + m) ⊢ iprop(tile (F := F) c p k n ∗ tile (F := F) c p (k + n) m) := by
  unfold tile
  rw [box_union]
  iintro ⟨%f, H⟩
  ihave H := (pointsTo_union (box_disjoint 2 (p % 2) k n m)).1 $$ H
  icases H with ⟨H1, H2⟩
  isplitl [H1]
  · iexists f; iexact H1
  iexists f; iexact H2

theorem tile_join (c : Dev nD) (p k n m : ℕ) :
    iprop(tile (F := F) c p k n ∗ tile (F := F) c p (k + n) m) ⊢ tile (F := F) c p k (n + m) := by
  unfold tile
  rw [box_union]
  iintro ⟨⟨%f, H1⟩, ⟨%g, H2⟩⟩
  iexists _
  iapply (pointsTo_join (box_disjoint 2 (p % 2) k n m))
  isplitl [H1]; · iexact H1
  iexact H2

/-- An image of the result is its five runs. -/
theorem dst_runs (c : Dev nD) (G : BufOf (F := F) c hbO) (b : ℕ) :
    dstOn c G (box 8 b 0 36) ⊣⊢ five (F := F) fun j => dstOn c G (box 8 b (lo j) (len j)) := by
  have h1 := dst_split c G b 0 6 30
  have h2 := dst_split c G b 6 9 21
  have h3 := dst_split c G b 15 7 14
  have h4 := dst_split c G b 22 7 7
  constructor
  · iintro H
    ihave H := h1.1 $$ H
    icases H with ⟨H0, H⟩
    ihave H := h2.1 $$ H
    icases H with ⟨H1, H⟩
    ihave H := h3.1 $$ H
    icases H with ⟨H2, H⟩
    ihave H := h4.1 $$ H
    icases H with ⟨H3, H4⟩
    isplitl [H0]; · iexact H0
    isplitl [H1]; · iexact H1
    isplitl [H2]; · iexact H2
    isplitl [H3]; · iexact H3
    iexact H4
  · iintro ⟨H0, H1, H2, H3, H4⟩
    iapply h1.2
    isplitl [H0]; · iexact H0
    iapply h2.2
    isplitl [H1]; · iexact H1
    iapply h3.2
    isplitl [H2]; · iexact H2
    iapply h4.2
    isplitl [H3]; · iexact H3
    iexact H4

/-- A writing slot is its five runs. -/
theorem tile_runs (c : Dev nD) (p : ℕ) :
    tile (F := F) c p 0 36 ⊣⊢ five (F := F) fun j => tile (F := F) c p (lo j) (len j) := by
  constructor
  · iintro H
    ihave H := (tile_split c p 0 6 30) $$ H
    icases H with ⟨H0, H⟩
    ihave H := (tile_split c p 6 9 21) $$ H
    icases H with ⟨H1, H⟩
    ihave H := (tile_split c p 15 7 14) $$ H
    icases H with ⟨H2, H⟩
    ihave H := (tile_split c p 22 7 7) $$ H
    icases H with ⟨H3, H4⟩
    isplitl [H0]; · iexact H0
    isplitl [H1]; · iexact H1
    isplitl [H2]; · iexact H2
    isplitl [H3]; · iexact H3
    iexact H4
  · iintro ⟨H0, H1, H2, H3, H4⟩
    iapply (tile_join c p 0 6 30)
    isplitl [H0]; · iexact H0
    iapply (tile_join c p 6 9 21)
    isplitl [H1]; · iexact H1
    iapply (tile_join c p 15 7 14)
    isplitl [H2]; · iexact H2
    iapply (tile_join c p 22 7 7)
    isplitl [H3]; · iexact H3
    iexact H4

/-! ### The phases over these -/

/-- A view of one whole image of an array. -/
theorem emb_img {κ : Kind} {sp : Space} {e : EltTy} {N : ℕ} (b : Fin N) (v : View sig κ sp (Big N) e) (off : Fin 4 → ℕ) (hoff : off = ![b.val, 0, 0, 0])
    (inb : ∀ a, off a + (![1, 36, 256, 256] : Fin 4 → ℕ) a ≤ (Big N).size a) (h : (⟨3, ![36, 256, 256]⟩ : Shape).numel = (⟨4, ![1, 36, 256, 256]⟩ : Shape).numel)
    (x : S36x256x256.Idx) :
    ((v.slice (Rect.unit (s := Big N) off ![1, 36, 256, 256] inb)).reshape ⟨3, ![36, 256, 256]⟩ h).emb x = v.emb (lead b x) := by
  refine (emb_box (k := 0) b (by decide) v off hoff inb h x).trans (congrArg v.emb ?_)
  show lead b _ = lead b x
  congr 1
  funext a
  apply Fin.ext
  fin_cases a
  · show 0 + (x 0).val = (x 0).val
    omega
  · rfl
  · rfl

/-- What a copy of image `b` delivers, whatever the offsets are spelled as. -/
theorem image_at (c : Dev nD) (X : BufOf (F := F) c hbX) (b : ℕ) (hb : b < 8) (o o' : Fin 4 → ℕ) (ho : o = ![b % 2, 0, 0, 0]) (ho' : o' = ![b, 0, 0, 0])
    (inb : ∀ a, o a + S1x36x256x256.size a ≤ S2x36x256x256.size a) (inb' : ∀ a, o' a + S1x36x256x256.size a ≤ S8x36x256x256.size a) :
    image c ((scX.slice (Rect.unit (s := S2x36x256x256) o S1x36x256x256.size inb) (fun _ => rfl)).squeeze S36x256x256 squeezes_S1x36x256x256_S36x256x256)
        ((hbX.slice (Rect.unit (s := S8x36x256x256) o' S1x36x256x256.size inb') (fun _ => rfl)).squeeze S36x256x256 squeezes_S1x36x256x256_S36x256x256) fullShare X
      ⊢ iprop(slotAt c X b ∗ srcOn c X (box 8 b 0 36)) := by
  have e1 : ((scX.slice (Rect.unit (s := S2x36x256x256) o S1x36x256x256.size inb) (fun _ => rfl)).squeeze S36x256x256 squeezes_S1x36x256x256_S36x256x256).view.set = box 2 (b % 2) 0 36 :=
    (set_box scX.view o ho inb _ (numel_drop _)).trans (Finset.map_refl)
  have e2 : ((hbX.slice (Rect.unit (s := S8x36x256x256) o' S1x36x256x256.size inb') (fun _ => rfl)).squeeze S36x256x256 squeezes_S1x36x256x256_S36x256x256).view.set = box 8 b 0 36 :=
    (set_box hbX.view o' ho' inb' _ (numel_drop _)).trans (Finset.map_refl)
  unfold image slotAt srcOn
  rw [e1, e2]
  iintro ⟨⟨%f, %hf, Hs⟩, Hx⟩
  isplitl [Hs]
  · iexists f
    isplitr
    · ipureintro
      intro hb'
      funext x
      have h := congrFun hf x
      have h1 := emb_img (half b) scX.view o ho inb (numel_drop _) x
      have h2 := emb_img (⟨b, hb⟩ : Fin 8) hbX.view o' ho' inb' (numel_drop _) x
      exact ((congrArg f h1.symm).trans h).trans (congrArg X h2)
    iexact Hs
  iexact Hx

/-- The first image copy. -/
theorem start_at (c : Dev nD) (t : Fin grid0.N) (h : t.val = 0) (X : BufOf (F := F) c hbX) (W : Waits sig Unit) (K : PUnit → sProp 𝕄) :
    iprop(srcOn c X (box 8 0 0 36) ∗ freeX (F := F) c 0 ∗ owes (c : Thread nD τ) 0 W ∗ (iprop(flX c X 0 ∗ owes (c : Thread nD τ) 0 W) -∗ K ⟨⟩))
      ⊢ wp frame (wpE (defs₀ (F := F)) Variants.none c none) Set.univ (startP (grid0.coords t)) K := by
  have hc := (cond1_at t).2 h
  unfold freeX slotX srcOn
  iintro ⟨Hx, ⟨⟨%f, Hs⟩, Hc⟩, HW, Hk⟩
  have key := start_wp c (grid0.coords t) hc fullShare X f W K
  have e1 : ((scX.slice (Rect.unit (s := S2x36x256x256) ![0, 0, 0, 0] S1x36x256x256.size inb_S2x36x256x256_S1x36x256x256_0_0_0_0) (fun _ => rfl)).squeeze S36x256x256 squeezes_S1x36x256x256_S36x256x256).view.set = box 2 (0 % 2) 0 36 :=
    (set_box scX.view _ rfl _ _ (numel_drop _)).trans (Finset.map_refl)
  have e2 : ((hbX.slice (Rect.unit (s := S8x36x256x256) ![0, 0, 0, 0] S1x36x256x256.size inb_S8x36x256x256_S1x36x256x256_0_0_0_0) (fun _ => rfl)).squeeze S36x256x256 squeezes_S1x36x256x256_S36x256x256).view.set = box 8 0 0 36 :=
    (set_box hbX.view _ rfl _ _ (numel_drop _)).trans (Finset.map_refl)
  rw [e1, e2, startS_at] at key
  iapply key
  isplitl [Hx]; · iexact Hx
  isplitl [Hs]; · iexact Hs
  isplitl [Hc]; · iexact Hc
  isplitl [HW]; · iexact HW
  iintro ⟨HF, HW⟩
  iapply Hk
  isplitl [HF]
  · unfold flX
    iapply (Transfers.Flight_mono countersEmb (c : Thread nD τ) (image_at c X 0 (by omega) _ _ rfl rfl _ _)) $$ HF
  iexact HW

/-- The copy of the next image. -/
theorem prefetch_at (c : Dev nD) (t : Fin grid0.N) (h : t.val < 7) (X : BufOf (F := F) c hbX) (W : Waits sig Unit) (K : PUnit → sProp 𝕄) :
    iprop(srcOn c X (box 8 (t.val + 1) 0 36) ∗ freeX (F := F) c (t.val + 1) ∗ owes (c : Thread nD τ) 0 W ∗ (iprop(flX c X (t.val + 1) ∗ owes (c : Thread nD τ) 0 W) -∗ K ⟨⟩))
      ⊢ wp frame (wpE (defs₀ (F := F)) Variants.none c none) Set.univ (prefetchP (grid0.coords t)) K := by
  have hc := (cond2_at t).2 h
  unfold freeX slotX srcOn
  iintro ⟨Hx, ⟨⟨%f, Hs⟩, Hc⟩, HW, Hk⟩
  have key := prefetch_wp c (grid0.coords t) hc fullShare X f W K
  have e1 : ((scX.slice (Rect.unit (s := S2x36x256x256) (k0_off2 (grid0.coords t)) S1x36x256x256.size (k0_off2_inb (grid0.coords t) hc)) (fun _ => rfl)).squeeze S36x256x256 squeezes_S1x36x256x256_S36x256x256).view.set = box 2 ((t.val + 1) % 2) 0 36 :=
    (set_box scX.view _ (off2_at t h) _ _ (numel_drop _)).trans (Finset.map_refl)
  have e2 : ((hbX.slice (Rect.unit (s := S8x36x256x256) (k0_off3 (grid0.coords t)) S1x36x256x256.size (k0_off3_inb (grid0.coords t) hc)) (fun _ => rfl)).squeeze S36x256x256 squeezes_S1x36x256x256_S36x256x256).view.set = box 8 (t.val + 1) 0 36 :=
    (set_box hbX.view _ (off3_at t h) _ _ (numel_drop _)).trans (Finset.map_refl)
  rw [e1, e2, nextS_at t hc] at key
  iapply key
  isplitl [Hx]; · iexact Hx
  isplitl [Hs]; · iexact Hs
  isplitl [Hc]; · iexact Hc
  isplitl [HW]; · iexact HW
  iintro ⟨HF, HW⟩
  iapply Hk
  isplitl [HF]
  · unfold flX
    iapply (Transfers.Flight_mono countersEmb (c : Thread nD τ) (image_at c X (t.val + 1) (by omega) _ _ (off2_at t h) (off3_at t h) _ _)) $$ HF
  iexact HW

/-- The wait for this point's image. -/
theorem await_at (c : Dev nD) (t : Fin grid0.N) (X : BufOf (F := F) c hbX) (W : Waits sig Unit) (K : PUnit → sProp 𝕄) :
    iprop(flX c X t.val ∗ owes (c : Thread nD τ) 0 W
      ∗ (iprop((∃ W, owes (c : Thread nD τ) 0 W) ∗ (slotAt c X t.val ∗ srcOn c X (box 8 t.val 0 36)) ∗ semVal ((c : Thread nD τ), inS t.val) 0) -∗ K ⟨⟩))
      ⊢ wp frame (wpE (defs₀ (F := F)) Variants.none c none) Set.univ (awaitP (grid0.coords t)) K := by
  have key := await_wp c (grid0.coords t) iprop(slotAt c X t.val ∗ srcOn c X (box 8 t.val 0 36)) W K
  rw [hereS_at t] at key
  exact key

/-- What five delivered runs of an image are: the image in the result, and the slot's tiles. -/
theorem runs_back (c : Dev nD) (G : BufOf (F := F) c hbO) (b : ℕ) :
    (five (F := F) fun j => iprop(runAt c G b j ∗ semVal ((c : Thread nD τ), outS b j) 0))
      ⊢ iprop(dstOn c G (box 8 b 0 36) ∗ freeO (F := F) c b) := by
  unfold runAt freeO
  iintro ⟨⟨⟨D0, T0⟩, S0⟩, ⟨⟨D1, T1⟩, S1⟩, ⟨⟨D2, T2⟩, S2⟩, ⟨⟨D3, T3⟩, S3⟩, ⟨⟨D4, T4⟩, S4⟩⟩
  isplitl [D0 D1 D2 D3 D4]
  · iapply (dst_runs c G b).2
    isplitl [D0]; · iexact D0
    isplitl [D1]; · iexact D1
    isplitl [D2]; · iexact D2
    isplitl [D3]; · iexact D3
    iexact D4
  isplitl [T0 S0]
  · isplitl [T0]; · iexact T0
    iexact S0
  isplitl [T1 S1]
  · isplitl [T1]; · iexact T1
    iexact S1
  isplitl [T2 S2]
  · isplitl [T2]; · iexact T2
    iexact S2
  isplitl [T3 S3]
  · isplitl [T3]; · iexact T3
    iexact S3
  isplitl [T4]; · iexact T4
  iexact S4

/-- The waits for the copies out of two points before. -/
theorem awaitOld_at (c : Dev nD) (t : Fin grid0.N) (arg1 : Memref sig .tc .smem S22 .f32) (harg1 : arg1.IsWhole) (h : 2 ≤ t.val) (G : BufOf (F := F) c hbO) (W : Waits sig Unit) (K : PUnit → sProp 𝕄) :
    iprop(flO c G (t.val - 2) ∗ owes (c : Thread nD τ) 0 W
      ∗ (iprop((dstOn c G (box 8 (t.val - 2) 0 36) ∗ freeO (F := F) c (t.val - 2)) ∗ ∃ W, owes (c : Thread nD τ) 0 W) -∗ K ⟨⟩))
      ⊢ wp frame (wpE (defs₀ (F := F)) Variants.none c none) Set.univ (awaitOldP (grid0.coords t) arg1 harg1) K := by
  have hc := (cond3_at t).2 h
  have key := awaitOld_wp c (grid0.coords t) arg1 harg1 hc (runAt c G (t.val - 2) 0) (runAt c G (t.val - 2) 1) (runAt c G (t.val - 2) 2) (runAt c G (t.val - 2) 3) (runAt c G (t.val - 2) 4) W K
  have e : ∀ j, outS t.val j = outS (t.val - 2) j := fun j => by unfold outS; rw [half_sub h]
  rw [old0_at t hc, old1_at t hc, old2_at t hc, old3_at t hc, old4_at t hc] at key
  simp only [e] at key
  unfold flO
  iintro ⟨⟨H0, H1, H2, H3, H4⟩, HW, Hk⟩
  iapply key
  isplitl [H0]; · iexact H0
  isplitl [H1]; · iexact H1
  isplitl [H2]; · iexact H2
  isplitl [H3]; · iexact H3
  isplitl [H4]; · iexact H4
  isplitl [HW]; · iexact HW
  iintro ⟨D0, D1, D2, D3, D4, HW⟩
  iapply Hk
  isplitl [D0 D1 D2 D3 D4]
  · iapply (runs_back c G (t.val - 2))
    isplitl [D0]; · iexact D0
    isplitl [D1]; · iexact D1
    isplitl [D2]; · iexact D2
    isplitl [D3]; · iexact D3
    iexact D4
  iexact HW

/-- The last point's waits for the copies out of the last two images. -/
theorem finish_at (c : Dev nD) (t : Fin grid0.N) (arg1 : Memref sig .tc .smem S22 .f32) (harg1 : arg1.IsWhole) (h : t.val = 7) (G : BufOf (F := F) c hbO) (W : Waits sig Unit) (K : PUnit → sProp 𝕄) :
    iprop(flO c G 7 ∗ flO c G 6 ∗ owes (c : Thread nD τ) 0 W
      ∗ (iprop((dstOn c G (box 8 7 0 36) ∗ freeO (F := F) c 7) ∗ (dstOn c G (box 8 6 0 36) ∗ freeO (F := F) c 6) ∗ ∃ W, owes (c : Thread nD τ) 0 W) -∗ K ⟨⟩))
      ⊢ wp frame (wpE (defs₀ (F := F)) Variants.none c none) Set.univ (finishP (grid0.coords t) arg1 harg1) K := by
  have hc := (cond4_at t).2 h
  have key := finish_wp c (grid0.coords t) arg1 harg1 hc (runAt c G 7 0) (runAt c G 6 0) (runAt c G 7 1) (runAt c G 6 1) (runAt c G 7 2) (runAt c G 6 2) (runAt c G 7 3) (runAt c G 6 3) (runAt c G 7 4) (runAt c G 6 4) W K
  have e1 : ∀ j, outS 1 j = outS 7 j := fun j => rfl
  have e0 : ∀ j, outS 0 j = outS 6 j := fun j => rfl
  rw [fin00_at t hc, fin01_at t hc, fin10_at t hc, fin11_at t hc, fin20_at t hc, fin21_at t hc, fin30_at t hc, fin31_at t hc, fin40_at t hc, fin41_at t hc] at key
  simp only [e1, e0] at key
  unfold flO
  iintro ⟨⟨H0, H1, H2, H3, H4⟩, ⟨I0, I1, I2, I3, I4⟩, HW, Hk⟩
  iapply key
  isplitl [H0]; · iexact H0
  isplitl [I0]; · iexact I0
  isplitl [H1]; · iexact H1
  isplitl [I1]; · iexact I1
  isplitl [H2]; · iexact H2
  isplitl [I2]; · iexact I2
  isplitl [H3]; · iexact H3
  isplitl [I3]; · iexact I3
  isplitl [H4]; · iexact H4
  isplitl [I4]; · iexact I4
  isplitl [HW]; · iexact HW
  iintro ⟨D0, E0, D1, E1, D2, E2, D3, E3, D4, E4, HW⟩
  iapply Hk
  isplitl [D0 D1 D2 D3 D4]
  · iapply (runs_back c G 7)
    isplitl [D0]; · iexact D0
    isplitl [D1]; · iexact D1
    isplitl [D2]; · iexact D2
    isplitl [D3]; · iexact D3
    iexact D4
  isplitl [E0 E1 E2 E3 E4]
  · iapply (runs_back c G 6)
    isplitl [E0]; · iexact E0
    isplitl [E1]; · iexact E1
    isplitl [E2]; · iexact E2
    isplitl [E3]; · iexact E3
    iexact E4
  iexact HW

theorem delivers0_at (c : Dev nD) (t : Fin grid0.N) (G : BufOf (F := F) c hbO) : delivers0 c (grid0.coords t) G = runAt c G t.val 0 := by
  unfold delivers0 runAt tile dstOn
  rw [pc0_set, ti0_set]
  rfl
theorem delivers1_at (c : Dev nD) (t : Fin grid0.N) (G : BufOf (F := F) c hbO) : delivers1 c (grid0.coords t) G = runAt c G t.val 1 := by
  unfold delivers1 runAt tile dstOn
  rw [pc1_set, ti1_set]
  rfl
theorem delivers2_at (c : Dev nD) (t : Fin grid0.N) (G : BufOf (F := F) c hbO) : delivers2 c (grid0.coords t) G = runAt c G t.val 2 := by
  unfold delivers2 runAt tile dstOn
  rw [pc2_set, ti2_set]
  rfl
theorem delivers3_at (c : Dev nD) (t : Fin grid0.N) (G : BufOf (F := F) c hbO) : delivers3 c (grid0.coords t) G = runAt c G t.val 3 := by
  unfold delivers3 runAt tile dstOn
  rw [pc3_set, ti3_set]
  rfl
theorem delivers4_at (c : Dev nD) (t : Fin grid0.N) (G : BufOf (F := F) c hbO) : delivers4 c (grid0.coords t) G = runAt c G t.val 4 := by
  unfold delivers4 runAt tile dstOn
  rw [pc4_set, ti4_set]
  rfl

set_option maxHeartbeats 1000000 in
/-- A point's image computed and its copies out started. -/
theorem compute_at (c : Dev nD) (t : Fin grid0.N) (arg1 : Memref sig .tc .smem S22 .f32) (harg1 : arg1.IsWhole) (fp : BufOf (F := F) c arg1) (fx : BufOf (F := F) c scX) (X : BufOf (F := F) c hbX) (hX : Holds c fx X t.val) (V G : BufOf (F := F) c hbO)
    (hG : G = result (arg1.view.read (Elt F) fp) X) (W : Waits sig Unit) (T : Prog (TpuEff nD τ sig (Elt F) Λ₀ .tc) PUnit) (K : PUnit → sProp 𝕄) :
    iprop((arg1.view.loc (c : Thread nD τ) ↦{fullShare} fp) ∗ (scX.view.loc (c : Thread nD τ) ↦[box 2 (t.val % 2) 0 36]{fullShare} fx)
      ∗ freeO (F := F) c t.val ∗ dstOn c V (box 8 t.val 0 36) ∗ owes (c : Thread nD τ) 0 W
      ∗ (iprop((arg1.view.loc (c : Thread nD τ) ↦{fullShare} fp) ∗ (scX.view.loc (c : Thread nD τ) ↦[box 2 (t.val % 2) 0 36]{fullShare} fx) ∗ flO c G t.val ∗ owes (c : Thread nD τ) 0 W)
        -∗ wp frame (wpE (defs₀ (F := F)) Variants.none c none) Set.univ T K))
      ⊢ wp frame (wpE (defs₀ (F := F)) Variants.none c none) Set.univ (computeP (grid0.coords t) arg1 harg1 (Channel.param (arg1.view.read (Elt F) fp) 0) (Channel.scaled (Channel.param (arg1.view.read (Elt F) fp) 1)) (Channel.param (arg1.view.read (Elt F) fp) 2) (Channel.param (arg1.view.read (Elt F) fp) 3) (k0_pay2 (Channel.chan ((xs (grid0.coords t)).view.read (Elt F) fx) 0)) T) K := by
  have hx : (xs (grid0.coords t)).view.read (Elt F) fx = img (N := 8) X (im t) := (xs_read t c fx).trans (hX (im t).isLt)
  subst hG
  unfold freeO tile
  iintro ⟨Hp, Hx, ⟨⟨⟨%f0, T0⟩, S0⟩, ⟨⟨%f1, T1⟩, S1⟩, ⟨⟨%f2, T2⟩, S2⟩, ⟨⟨%f3, T3⟩, S3⟩, ⟨⟨%f4, T4⟩, S4⟩⟩, Hd, HW, Hk⟩
  ihave Hd := (dst_runs c V t.val).1 $$ Hd
  icases Hd with ⟨D0, D1, D2, D3, D4⟩
  have key := compute c (grid0.coords t) arg1 harg1 fp fullShare fx f0 f1 f2 f3 f4 V V V V V (result (arg1.view.read (Elt F) fp) X)
    (fun x => (pc0_read t _ X x).trans (by rw [hx])) (fun x => (pc1_read t _ X x).trans (by rw [hx])) (fun x => (pc2_read t _ X x).trans (by rw [hx])) (fun x => (pc3_read t _ X x).trans (by rw [hx])) (fun x => (pc4_read t _ X x).trans (by rw [hx])) W T K
  rw [win0, ti0_set, pc0_set, wc0_at, delivers0_at, win1, ti1_set, pc1_set, wc1_at, delivers1_at, win2, ti2_set, pc2_set, wc2_at, delivers2_at, win3, ti3_set, pc3_set, wc3_at, delivers3_at, win4, ti4_set, pc4_set, wc4_at, delivers4_at, xs_set] at key
  iapply key
  isplitl [Hp]; · iexact Hp
  isplitl [Hx]; · iexact Hx
  isplitl [T0]; · iexact T0
  isplitl [T1]; · iexact T1
  isplitl [T2]; · iexact T2
  isplitl [T3]; · iexact T3
  isplitl [T4]; · iexact T4
  isplitl [D0]; · iexact D0
  isplitl [S0]; · iexact S0
  isplitl [D1]; · iexact D1
  isplitl [S1]; · iexact S1
  isplitl [D2]; · iexact D2
  isplitl [S2]; · iexact S2
  isplitl [D3]; · iexact D3
  isplitl [S3]; · iexact S3
  isplitl [D4]; · iexact D4
  isplitl [S4]; · iexact S4
  isplitl [HW]; · iexact HW
  iintro ⟨Hp, Hx, F0, F1, F2, F3, F4, HW⟩
  iapply Hk
  isplitl [Hp]; · iexact Hp
  isplitl [Hx]; · iexact Hx
  isplitl [F0 F1 F2 F3 F4]
  · unfold flO
    isplitl [F0]; · iexact F0
    isplitl [F1]; · iexact F1
    isplitl [F2]; · iexact F2
    isplitl [F3]; · iexact F3
    iexact F4
  iexact HW

end Cert.KernelIdeal.Ring

end
-- ==== Proof.Point.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.State

@[expose] public section

set_option maxRecDepth 16384

/-! # A grid point takes its state to the next -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

/-- The elements of an array of images before image `n`. -/
abbrev below (n : ℕ) : Finset (Big 8).Idx := Finset.univ.filter fun y => (y 0).val < n

/-- The elements from image `n` on. -/
abbrev onward (n : ℕ) : Finset (Big 8).Idx := Finset.univ.filter fun y => n ≤ (y 0).val

theorem mem_below {n : ℕ} {y : (Big 8).Idx} : y ∈ below n ↔ (y 0).val < n := by simp [below]
theorem mem_onward {n : ℕ} {y : (Big 8).Idx} : y ∈ onward n ↔ n ≤ (y 0).val := by simp [onward]

/-- A whole image of an array of eight. -/
theorem mem_image {b : ℕ} {y : (Big 8).Idx} : y ∈ box 8 b 0 36 ↔ (y 0).val = b := by
  rw [mem_box]
  have h : (y 1).val < 36 := (y 1).isLt
  omega

theorem below_succ (n : ℕ) : below (n + 1) = below n ∪ box 8 n 0 36 := by
  ext y
  rw [Finset.mem_union, mem_below, mem_below, mem_image]
  omega

theorem below_disjoint (n : ℕ) : Disjoint (below n) (box 8 n 0 36) := by
  rw [Finset.disjoint_left]
  intro y h h'
  rw [mem_below] at h
  rw [mem_image] at h'
  omega

theorem onward_eq (n : ℕ) : onward n = box 8 n 0 36 ∪ onward (n + 1) := by
  ext y
  rw [Finset.mem_union, mem_onward, mem_onward, mem_image]
  omega

theorem onward_disjoint (n : ℕ) : Disjoint (box 8 n 0 36) (onward (n + 1)) := by
  rw [Finset.disjoint_left]
  intro y h h'
  rw [mem_image] at h
  rw [mem_onward] at h'
  omega

theorem below_all : below 8 = Finset.univ := by
  ext y
  rw [mem_below]
  have h : (y 0).val < 8 := (y 0).isLt
  simp [h]

theorem below_none : below 0 = ∅ := by
  ext y
  rw [mem_below]
  simp

theorem onward_none : onward 8 = ∅ := by
  ext y
  rw [mem_onward]
  have h : (y 0).val < 8 := (y 0).isLt
  simp [h]

theorem onward_all : onward 0 = Finset.univ := by
  ext y
  rw [mem_onward]
  simp

/-- A writing or reading slot depends on the parity alone. -/
theorem freeX_congr (c : Dev nD) {p q : ℕ} (h : p % 2 = q % 2) : freeX (F := F) c p = freeX (F := F) c q := by
  have e : half p = half q := Fin.ext h
  unfold freeX slotX inS
  rw [h, e]

theorem freeO_congr (c : Dev nD) {p q : ℕ} (h : p % 2 = q % 2) : freeO (F := F) c p = freeO (F := F) c q := by
  have e : half p = half q := Fin.ext h
  unfold freeO tile outS
  rw [h, e]

/-- The reading side once image `t`'s copy is in flight. -/
def midR (c : Dev nD) (X : BufOf (F := F) c hbX) (t : ℕ) : sProp 𝕄 :=
  iprop(flX c X t ∗ freeX (F := F) c (t + 1) ∗ srcOn c X (Finset.univ \ box 8 t 0 36))

/-- The reading side before point `t`. -/
def readSt (c : Dev nD) (X : BufOf (F := F) c hbX) (t : ℕ) : sProp 𝕄 :=
  if 1 ≤ t ∧ t ≤ 7 then midR c X t else iprop(freeX (F := F) c 0 ∗ freeX (F := F) c 1 ∗ srcOn c X Finset.univ)

/-- The reading side but for image `t`, once the next image's copy is in flight. -/
def nextR (c : Dev nD) (X : BufOf (F := F) c hbX) (t : ℕ) : sProp 𝕄 :=
  if t < 7 then iprop(flX c X (t + 1) ∗ srcOn c X ((Finset.univ \ box 8 t 0 36) \ box 8 (t + 1) 0 36))
  else iprop(freeX (F := F) c (t + 1) ∗ srcOn c X (Finset.univ \ box 8 t 0 36))

/-- The writing slot point `t` takes. -/
def slotA (c : Dev nD) (G : BufOf (F := F) c hbO) (t : ℕ) : sProp 𝕄 := if t < 2 then freeO (F := F) c t else flO c G (t - 2)

/-- The writing slot of the point before. -/
def slotB (c : Dev nD) (G : BufOf (F := F) c hbO) (t : ℕ) : sProp 𝕄 := if t = 0 then freeO (F := F) c 1 else flO c G (t - 1)

/-- The writing side before point `t`: the images whose copies out were awaited are in place, the later ones untouched. -/
def writeSt (c : Dev nD) (V G : BufOf (F := F) c hbO) (t : ℕ) : sProp 𝕄 :=
  if t = 8 then iprop(freeO (F := F) c 0 ∗ freeO (F := F) c 1 ∗ dstOn c G Finset.univ)
  else iprop(slotA c G t ∗ slotB c G t ∗ dstOn c G (below (t - 2)) ∗ dstOn c V (onward t))

/-- The writing side once this point's slot is free. -/
def midW (c : Dev nD) (V G : BufOf (F := F) c hbO) (t : ℕ) : sProp 𝕄 :=
  iprop(freeO (F := F) c t ∗ slotB c G t ∗ dstOn c G (below (t - 1)) ∗ dstOn c V (onward t))

/-- The writing side once this point's copies out are in flight. -/
def lateW (c : Dev nD) (V G : BufOf (F := F) c hbO) (t : ℕ) : sProp 𝕄 :=
  iprop(flO c G t ∗ slotB c G t ∗ dstOn c G (below (t - 1)) ∗ dstOn c V (onward (t + 1)))

theorem src_split (c : Dev nD) (X : BufOf (F := F) c hbX) {I S : Finset (Big 8).Idx} (h : I ⊆ S) : srcOn c X S ⊣⊢ iprop(srcOn c X I ∗ srcOn c X (S \ I)) :=
  pointsTo_split_subset h

theorem dst_below (c : Dev nD) (G : BufOf (F := F) c hbO) (n : ℕ) : dstOn c G (below (n + 1)) ⊣⊢ iprop(dstOn c G (below n) ∗ dstOn c G (box 8 n 0 36)) := by
  unfold dstOn
  rw [below_succ]
  exact pointsTo_union (below_disjoint n)

theorem dst_onward (c : Dev nD) (V : BufOf (F := F) c hbO) (n : ℕ) : dstOn c V (onward n) ⊣⊢ iprop(dstOn c V (box 8 n 0 36) ∗ dstOn c V (onward (n + 1))) := by
  unfold dstOn
  rw [onward_eq]
  exact pointsTo_union (onward_disjoint n)

theorem start_step (c : Dev nD) (t : Fin grid0.N) (X : BufOf (F := F) c hbX) (W : Waits sig Unit) (K : PUnit → sProp 𝕄) :
    iprop(readSt c X t.val ∗ owes (c : Thread nD τ) 0 W ∗ (iprop(midR c X t.val ∗ owes (c : Thread nD τ) 0 W) -∗ K ⟨⟩))
      ⊢ wp frame (wpE (defs₀ (F := F)) Variants.none c none) Set.univ (startP (grid0.coords t)) K := by
  have ht : t.val < 8 := t.isLt
  by_cases h : t.val = 0
  · have e : readSt c X t.val = iprop(freeX (F := F) c 0 ∗ freeX (F := F) c 1 ∗ srcOn c X Finset.univ) := by unfold readSt; rw [if_neg (by omega)]
    rw [e, h]
    unfold midR
    iintro ⟨⟨H0, H1, Hx⟩, HW, Hk⟩
    ihave Hx := (src_split c X (Finset.subset_univ (box 8 0 0 36))).1 $$ Hx
    icases Hx with ⟨Hx, Hr⟩
    iapply (start_at c t h X W K)
    isplitl [Hx]; · iexact Hx
    isplitl [H0]; · iexact H0
    isplitl [HW]; · iexact HW
    iintro ⟨HF, HW⟩
    iapply Hk
    isplitl [HF H1 Hr]
    · isplitl [HF]; · iexact HF
      isplitl [H1]; · iexact H1
      iexact Hr
    iexact HW
  · have e : readSt c X t.val = midR c X t.val := by unfold readSt; rw [if_pos (by omega)]
    rw [e]
    iintro ⟨H, HW, Hk⟩
    iapply (start_skip c (grid0.coords t) (fun hc => h ((cond1_at t).1 hc)) K)
    iapply Hk
    isplitl [H]; · iexact H
    iexact HW

theorem prefetch_step (c : Dev nD) (t : Fin grid0.N) (X : BufOf (F := F) c hbX) (W : Waits sig Unit) (K : PUnit → sProp 𝕄) :
    iprop(midR c X t.val ∗ owes (c : Thread nD τ) 0 W ∗ (iprop((flX c X t.val ∗ nextR c X t.val) ∗ owes (c : Thread nD τ) 0 W) -∗ K ⟨⟩))
      ⊢ wp frame (wpE (defs₀ (F := F)) Variants.none c none) Set.univ (prefetchP (grid0.coords t)) K := by
  unfold midR
  by_cases h : t.val < 7
  · have e : nextR c X t.val = iprop(flX c X (t.val + 1) ∗ srcOn c X ((Finset.univ \ box 8 t.val 0 36) \ box 8 (t.val + 1) 0 36)) := by unfold nextR; rw [if_pos h]
    rw [e]
    iintro ⟨⟨HF, H1, Hx⟩, HW, Hk⟩
    have hsub : box 8 (t.val + 1) 0 36 ⊆ Finset.univ \ box 8 t.val 0 36 := by
      intro y hy
      rw [mem_image] at hy
      rw [Finset.mem_sdiff, mem_image]
      exact ⟨Finset.mem_univ _, by omega⟩
    ihave Hx := (src_split c X hsub).1 $$ Hx
    icases Hx with ⟨Hx, Hr⟩
    iapply (prefetch_at c t h X W K)
    isplitl [Hx]; · iexact Hx
    isplitl [H1]; · iexact H1
    isplitl [HW]; · iexact HW
    iintro ⟨HN, HW⟩
    iapply Hk
    isplitl [HF HN Hr]
    · isplitl [HF]; · iexact HF
      isplitl [HN]; · iexact HN
      iexact Hr
    iexact HW
  · have e : nextR c X t.val = iprop(freeX (F := F) c (t.val + 1) ∗ srcOn c X (Finset.univ \ box 8 t.val 0 36)) := by unfold nextR; rw [if_neg h]
    rw [e]
    iintro ⟨⟨HF, H1, Hx⟩, HW, Hk⟩
    iapply (prefetch_skip c (grid0.coords t) (fun hc => h ((cond2_at t).1 hc)) K)
    iapply Hk
    isplitl [HF H1 Hx]
    · isplitl [HF]; · iexact HF
      isplitl [H1]; · iexact H1
      iexact Hx
    iexact HW

/-- The reading side closes on the next point's. -/
theorem read_next (c : Dev nD) (t : Fin grid0.N) (X : BufOf (F := F) c hbX) :
    iprop(nextR c X t.val ∗ srcOn c X (box 8 t.val 0 36) ∗ freeX (F := F) c t.val) ⊢ readSt c X (t.val + 1) := by
  have ht : t.val < 8 := t.isLt
  by_cases h : t.val < 7
  · have e : nextR c X t.val = iprop(flX c X (t.val + 1) ∗ srcOn c X ((Finset.univ \ box 8 t.val 0 36) \ box 8 (t.val + 1) 0 36)) := by unfold nextR; rw [if_pos h]
    have e' : readSt c X (t.val + 1) = midR c X (t.val + 1) := by unfold readSt; rw [if_pos (by omega)]
    rw [e, e']
    unfold midR
    have hsub : box 8 t.val 0 36 ⊆ Finset.univ \ box 8 (t.val + 1) 0 36 := by
      intro y hy
      rw [mem_image] at hy
      rw [Finset.mem_sdiff, mem_image]
      exact ⟨Finset.mem_univ _, by omega⟩
    have hs := src_split c X hsub
    rw [sdiff_right_comm] at hs
    rw [freeX_congr c (p := t.val + 1 + 1) (q := t.val) (by omega)]
    iintro ⟨⟨HF, Hr⟩, Hx, Hf⟩
    isplitl [HF]; · iexact HF
    isplitl [Hf]; · iexact Hf
    iapply hs.2
    isplitl [Hx]; · iexact Hx
    iexact Hr
  · have e : nextR c X t.val = iprop(freeX (F := F) c (t.val + 1) ∗ srcOn c X (Finset.univ \ box 8 t.val 0 36)) := by unfold nextR; rw [if_neg h]
    have e' : readSt c X (t.val + 1) = iprop(freeX (F := F) c 0 ∗ freeX (F := F) c 1 ∗ srcOn c X Finset.univ) := by unfold readSt; rw [if_neg (by omega)]
    rw [e, e', freeX_congr c (p := t.val + 1) (q := 0) (by omega), freeX_congr c (p := t.val) (q := 1) (by omega)]
    iintro ⟨⟨HF, Hr⟩, Hx, Hf⟩
    isplitl [HF]; · iexact HF
    isplitl [Hf]; · iexact Hf
    iapply (src_split c X (Finset.subset_univ (box 8 t.val 0 36))).2
    isplitl [Hx]; · iexact Hx
    iexact Hr

theorem awaitOld_step (c : Dev nD) (t : Fin grid0.N) (arg1 : Memref sig .tc .smem S22 .f32) (harg1 : arg1.IsWhole) (V G : BufOf (F := F) c hbO) (W : Waits sig Unit) (K : PUnit → sProp 𝕄) :
    iprop(writeSt c V G t.val ∗ owes (c : Thread nD τ) 0 W ∗ (iprop(midW c V G t.val ∗ ∃ W, owes (c : Thread nD τ) 0 W) -∗ K ⟨⟩))
      ⊢ wp frame (wpE (defs₀ (F := F)) Variants.none c none) Set.univ (awaitOldP (grid0.coords t) arg1 harg1) K := by
  have ht : t.val < 8 := t.isLt
  unfold writeSt midW
  rw [if_neg (by omega)]
  by_cases h : 2 ≤ t.val
  · have e : slotA c G t.val = flO c G (t.val - 2) := by unfold slotA; rw [if_neg (by omega)]
    have hb := dst_below c G (t.val - 2)
    rw [show t.val - 2 + 1 = t.val - 1 by omega] at hb
    rw [e, freeO_congr c (p := t.val) (q := t.val - 2) (by omega)]
    iintro ⟨⟨HF, HB, Hb, Ho⟩, HW, Hk⟩
    iapply (awaitOld_at c t arg1 harg1 h G W K)
    isplitl [HF]; · iexact HF
    isplitl [HW]; · iexact HW
    iintro ⟨⟨Hd, Hf⟩, HW⟩
    iapply Hk
    isplitl [HB Hb Ho Hd Hf]
    · isplitl [Hf]; · iexact Hf
      isplitl [HB]; · iexact HB
      isplitl [Hb Hd]
      · iapply hb.2
        isplitl [Hb]; · iexact Hb
        iexact Hd
      iexact Ho
    iexact HW
  · have e : slotA c G t.val = freeO (F := F) c t.val := by unfold slotA; rw [if_pos (by omega)]
    rw [e, show t.val - 2 = t.val - 1 by omega]
    iintro ⟨⟨HF, HB, Hb, Ho⟩, HW, Hk⟩
    iapply (awaitOld_skip c (grid0.coords t) arg1 harg1 (fun hc => h ((cond3_at t).1 hc)) K)
    iapply Hk
    isplitl [HF HB Hb Ho]
    · isplitl [HF]; · iexact HF
      isplitl [HB]; · iexact HB
      isplitl [Hb]; · iexact Hb
      iexact Ho
    iexists W
    iexact HW

theorem finish_step (c : Dev nD) (t : Fin grid0.N) (arg1 : Memref sig .tc .smem S22 .f32) (harg1 : arg1.IsWhole) (V G : BufOf (F := F) c hbO) (W : Waits sig Unit) (K : PUnit → sProp 𝕄) :
    iprop(lateW c V G t.val ∗ owes (c : Thread nD τ) 0 W ∗ (iprop(writeSt c V G (t.val + 1) ∗ ∃ W, owes (c : Thread nD τ) 0 W) -∗ K ⟨⟩))
      ⊢ wp frame (wpE (defs₀ (F := F)) Variants.none c none) Set.univ (finishP (grid0.coords t) arg1 harg1) K := by
  have ht : t.val < 8 := t.isLt
  unfold lateW
  by_cases h : t.val = 7
  · have e : writeSt c V G (t.val + 1) = iprop(freeO (F := F) c 0 ∗ freeO (F := F) c 1 ∗ dstOn c G Finset.univ) := by unfold writeSt; rw [if_pos (by omega)]
    have e' : slotB c G t.val = flO c G 6 := by unfold slotB; rw [if_neg (by omega), show t.val - 1 = 6 by omega]
    rw [e, e', h, freeO_congr c (p := 0) (q := 6) (by omega), freeO_congr c (p := 1) (q := 7) (by omega), ← below_all]
    iintro ⟨⟨HF, HB, Hb, Ho⟩, HW, Hk⟩
    iapply (finish_at c t arg1 harg1 h G W K)
    isplitl [HF]; · iexact HF
    isplitl [HB]; · iexact HB
    isplitl [HW]; · iexact HW
    iintro ⟨⟨H7, F7⟩, ⟨H6, F6⟩, HW⟩
    iapply Hk
    isplitl [Hb H7 F7 H6 F6]
    · isplitl [F6]; · iexact F6
      isplitl [F7]; · iexact F7
      iapply (dst_below c G 7).2
      isplitl [Hb H6]
      · iapply (dst_below c G 6).2
        isplitl [Hb]; · iexact Hb
        iexact H6
      iexact H7
    iexact HW
  · have e : writeSt c V G (t.val + 1) = iprop(slotB c G t.val ∗ flO c G t.val ∗ dstOn c G (below (t.val - 1)) ∗ dstOn c V (onward (t.val + 1))) := by
      have ea : slotA c G (t.val + 1) = slotB c G t.val := by
        unfold slotA slotB
        by_cases h0 : t.val = 0
        · rw [if_pos (by omega), if_pos h0, h0]
        · rw [if_neg (by omega), if_neg h0, show t.val + 1 - 2 = t.val - 1 by omega]
      have eb : slotB c G (t.val + 1) = flO c G t.val := by unfold slotB; rw [if_neg (by omega), show t.val + 1 - 1 = t.val by omega]
      unfold writeSt
      rw [if_neg (by omega), ea, eb, show t.val + 1 - 2 = t.val - 1 by omega]
    rw [e]
    iintro ⟨⟨HF, HB, Hb, Ho⟩, HW, Hk⟩
    iapply (finish_skip c (grid0.coords t) arg1 harg1 (fun hc => h ((cond4_at t).1 hc)) K)
    iapply Hk
    isplitl [HF HB Hb Ho]
    · isplitl [HB]; · iexact HB
      isplitl [HF]; · iexact HF
      isplitl [Hb]; · iexact Hb
      iexact Ho
    iexists W
    iexact HW

set_option maxHeartbeats 1000000 in
/-- The body at a grid point: from the state before the point to the state before the next, whatever the parameters. -/
theorem point_wp (c : Dev nD) (t : Fin grid0.N) (arg1 : Memref sig .tc .smem S22 .f32) (harg1 : arg1.IsWhole) (fp : BufOf (F := F) c arg1) (X : BufOf (F := F) c hbX) (V G : BufOf (F := F) c hbO)
    (hG : G = result (arg1.view.read (Elt F) fp) X) (W : Waits sig Unit) (K : PUnit → sProp 𝕄) :
    iprop((arg1.view.loc (c : Thread nD τ) ↦{fullShare} fp) ∗ readSt c X t.val ∗ writeSt c V G t.val ∗ owes (c : Thread nD τ) 0 W
      ∗ (iprop((arg1.view.loc (c : Thread nD τ) ↦{fullShare} fp) ∗ readSt c X (t.val + 1) ∗ writeSt c V G (t.val + 1) ∗ ∃ W, owes (c : Thread nD τ) 0 W) -∗ K ⟨⟩))
      ⊢ wp frame (wpE (defs₀ (F := F)) Variants.none c none) Set.univ (cc0__zernike_kernel (grid0.coords t) arg1 harg1 hbX (Memref.isWhole_whole _) hbO (Memref.isWhole_whole _) scX (Memref.isWhole_whole _) scO (Memref.isWhole_whole _) cc0_scratch2 cc0_scratch3) K := by
  rw [kernel_eq]
  simp only [wp_bind]
  iintro ⟨Hp, HR, HO, HW, Hk⟩
  iapply (start_step c t X W _)
  isplitl [HR]; · iexact HR
  isplitl [HW]; · iexact HW
  iintro ⟨HR, HW⟩
  iapply (prefetch_step c t X W _)
  isplitl [HR]; · iexact HR
  isplitl [HW]; · iexact HW
  iintro ⟨⟨HF, HN⟩, HW⟩
  iapply (await_at c t X W _)
  isplitl [HF]; · iexact HF
  isplitl [HW]; · iexact HW
  iintro ⟨⟨%W1, HW⟩, ⟨Hs, Hx⟩, Hc⟩
  iapply (awaitOld_step c t arg1 harg1 V G W1 _)
  isplitl [HO]; · iexact HO
  isplitl [HW]; · iexact HW
  unfold slotAt
  icases Hs with ⟨%fx, %hX, Hs⟩
  iintro ⟨HO, ⟨%W2, HW⟩⟩
  have key := load_wp c (grid0.coords t) arg1 harg1 fp fullShare fx W2 (fun r => wp frame (wpE (defs₀ (F := F)) Variants.none c none) Set.univ (computeP (grid0.coords t) arg1 harg1 r.2.1 r.2.2.1 r.2.2.2.1 r.2.2.2.2.1 r.2.2.2.2.2 (finishP (grid0.coords t) arg1 harg1)) K)
  rw [xs_set] at key
  iapply key
  isplitl [Hp]; · iexact Hp
  isplitl [Hs]; · iexact Hs
  isplitl [HW]; · iexact HW
  iintro ⟨Hp, Hs, HW⟩
  unfold midW
  icases HO with ⟨Hf, HB, Hb, Ho⟩
  ihave Ho := (dst_onward c V t.val).1 $$ Ho
  icases Ho with ⟨Hd, Ho⟩
  iapply (compute_at c t arg1 harg1 fp fx X hX V G hG W2 (finishP (grid0.coords t) arg1 harg1) K)
  isplitl [Hp]; · iexact Hp
  isplitl [Hs]; · iexact Hs
  isplitl [Hf]; · iexact Hf
  isplitl [Hd]; · iexact Hd
  isplitl [HW]; · iexact HW
  iintro ⟨Hp, Hs, HF, HW⟩
  iapply (finish_step c t arg1 harg1 V G W2 K)
  isplitl [HF HB Hb Ho]
  · unfold lateW
    isplitl [HF]; · iexact HF
    isplitl [HB]; · iexact HB
    isplitl [Hb]; · iexact Hb
    iexact Ho
  isplitl [HW]; · iexact HW
  iintro ⟨HO, HW⟩
  iapply Hk
  isplitl [Hp]; · iexact Hp
  isplitl [HN Hx Hs Hc]
  · iapply (read_next c t X)
    isplitl [HN]; · iexact HN
    isplitl [Hx]; · iexact Hx
    unfold freeX slotX
    isplitl [Hs]
    · iexists fx
      iexact Hs
    iexact Hc
  isplitl [HO]; · iexact HO
  iexact HW

end Cert.KernelIdeal.Ring

end
-- ==== Proof.Region.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import proofs.«01_k».proof.Proof.Point
public import proofs.«01_k».proof.Proof.Gen.KernelIdeal.Frame
public import Idealize.ShloMosaic.Lib.Pipeline.FrameSuffixV

@[expose] public section

set_option maxRecDepth 16384

/-! # The region run from its launch: what it leaves in the array written -/

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The semaphores of the body's own copies. -/
abbrev ownCells : Fin 12 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 12 → SemLoc sig) j

theorem ownCells_facts : Pipeline.OwnSemFacts spec0 ownCells := by decide

/-- The array read, left in place. -/
abbrev readRefs : Finset (Ref sig .tc) := {main_v20}

/-- The array written. -/
abbrev writtenRefs : Finset (Ref sig .tc) := {main_v21}

theorem readRefs_sub : readRefs ⊆ Pipeline.restRefs sig spec0 := by decide
theorem writtenRefs_sub : writtenRefs ⊆ Pipeline.restRefs sig spec0 \ readRefs := by decide

theorem ownCells_list (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c ownCells [0, 1, 2, 3, 4, 5, 6, 7, 8, 9, 10, 11] (by decide) (by decide)]
  rfl

/-- The parameters the region reads. -/
abbrev params (c : Dev nD) : S22.Idx → Elt F .f32 := V m c main_v19

/-- The images the region reads. -/
abbrev images (c : Dev nD) : BufOf (F := F) c hbX := V m c main_v20

/-- What the array written held before. -/
abbrev before (c : Dev nD) : BufOf (F := F) c hbO := V m c main_v21

/-- What it holds after: the result of the parameters and the images. -/
abbrev after (c : Dev nD) : BufOf (F := F) c hbO := result (params m c) (images m c)

/-- The same, as a buffer per reference. -/
def afterAt (c : Dev nD) (b : Ref sig .tc) : Buf (Elt F) ((c : Thread nD τ).loc b) :=
  if e : main_v21 = b then e ▸ after m c else V m c b

theorem afterAt_written (c : Dev nD) : afterAt m c main_v21 = after m c := by
  unfold afterAt
  rw [dif_pos rfl]

/-- The region's state before point `k`. -/
def state (c : Dev nD) (k : ℕ) : sProp 𝕄 := iprop(readSt c (images m c) k ∗ writeSt c (before m c) (after m c) k)

/-- The launch's proof data: the window's block stays, the state moves from point to point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := state m c t.val
  q _ := fullShare
  owed _ := 0

theorem dats_A (c : Dev nD) (w : Fin cfg0.W) : (dats m 0 c).A w = V m c (Pipeline.arrRef spec0 w) := by
  dsimp only [dats]

theorem state_start (c : Dev nD) (t : Fin cfg0.N) : (dats m 0 c).Φ t.castSucc = state m c t.val := by
  dsimp only [dats]; simp only [Fin.coe_castSucc]

theorem state_end (c : Dev nD) (t : Fin cfg0.N) : (dats m 0 c).Φ t.succ = state m c (t.val + 1) := by
  dsimp only [dats]; simp only [Fin.val_succ]

theorem window_after (c : Dev nD) (t : Fin cfg0.N) : (dats m 0 c).after 0 t = iblk m c 0 t := by dsimp only [dats]

theorem window_before (c : Dev nD) (t : Fin cfg0.N) (d) : (dats m 0 c).before 0 t d = iblk m c 0 t :=
  ((dats m 0 c).before_in_eq_fetched 0 rfl (fun _ => rfl) (fun _ _ _ => rfl)
    (fun t => by rw [window_after]; unfold Dat.blockOf iblk; rw [dats_A]; try rfl) t d).trans
    (by unfold Dat.fetched Dat.blockOf iblk; rw [dats_A]; try rfl)

/-- Every point's block of the parameters is all of them. -/
theorem window_params (c : Dev nD) (t : Fin cfg0.N) : (iblk m c 0 t : S22.Idx → Elt F .f32) = params m c := by
  funext x
  refine congrArg (V m c main_v19) ?_
  funext a
  apply Fin.ext
  fin_cases a
  show 0 * _ + 1 * (x 0).val = (x 0).val
  omega

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

set_option maxHeartbeats 1000000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [window_before]
  rw [window_after, state_start m c t, state_end m c t]
  unfold Dat.owesAt Pipeline.owesWithin
  rw [show (dats m 0 c).owed t.castSucc = 0 from rfl, show (dats m 0 c).owed t.succ = 0 from rfl]
  unfold state owns
  have hw : (st0_0 t).IsWhole := hstage0_0 ((cfg0.slots t 0).cast nbuf0_0)
  rw [hw.set_eq_univ]
  iintro ⟨⟨HR, HO⟩, ⟨%W, -, HW⟩, ⟨%d, %fp, %hfp, Hp⟩⟩
  have hG : after m c = result ((st0_0 t).view.read (Elt F) fp) (images m c) := by
    unfold after
    rw [← window_params m c t, ← hfp]
  iapply (point_wp c t (st0_0 t) hw fp (images m c) (before m c) (after m c) hG W (fun _ => _))
  isplitl [Hp]; · iexact Hp
  isplitl [HR]; · iexact HR
  isplitl [HO]; · iexact HO
  isplitl [HW]; · iexact HW
  iintro ⟨Hp, HR, HO, ⟨%W', HW⟩⟩
  isplitl [HR HO]
  · isplitl [HR]; · iexact HR
    iexact HO
  isplitl [HW]
  · iexists W'
    isplitr
    · ipureintro
      exact fun _ _ => Or.inl trivial
    iexact HW
  iexists fp
  isplitr
  · ipureintro
    exact hfp
  iexact Hp

theorem body_row (t : Fin cfg0.N) : defs₀ (F := F) .tc cfg0.body (cfg0.bodyArgs t (cfg0.slots t)) = bodyAt0 t := by
  unfold defs₀; rw [Defs.onTc_tc]

theorem body_sound (c : Dev nD) : BodyObligation (dats (F := F) m 0 c) (defs₀ (F := F)) Variants.none () Set.univ := fun t => by
  rw [bigSep_W0, bigSep_W0, body_row]
  exact triple_restated (point_sound m c t) rfl .rfl fun _ => .rfl

/-! ### The state at the launch and at the end -/

theorem halves : (Finset.univ : Finset (Big 2).Idx) = box 2 0 0 36 ∪ box 2 1 0 36 := by
  ext y
  rw [Finset.mem_union, mem_box, mem_box]
  have h : (y 0).val < 2 := (y 0).isLt
  have h' : (y 1).val < 36 := (y 1).isLt
  simp only [Finset.mem_univ, true_iff]
  omega

theorem halves_disjoint : Disjoint (box 2 0 0 36) (box 2 1 0 36) := by
  rw [Finset.disjoint_left]
  intro y h h'
  rw [mem_box] at h h'
  omega

/-- The reading scratch is its two slots. -/
theorem scratchX (c : Dev nD) :
    iprop(∃ f : BufOf (F := F) c scX, (scX.view.loc (c : Thread nD τ) ↦{fullShare} f)) ⊣⊢ (iprop(slotX (F := F) c 0 ∗ slotX (F := F) c 1) : sProp 𝕄) := by
  unfold slotX
  have h := fun f : BufOf (F := F) c scX => (pointsTo_union (q := fullShare) (ℓ := scX.view.loc (c : Thread nD τ)) (f := f) halves_disjoint : _ ⊣⊢ (_ : sProp 𝕄))
  constructor
  · rw [halves]
    iintro ⟨%f, H⟩
    ihave H := (h f).1 $$ H
    icases H with ⟨H0, H1⟩
    isplitl [H0]
    · iexists f; iexact H0
    iexists f; iexact H1
  · rw [halves]
    iintro ⟨⟨%f, H0⟩, ⟨%g, H1⟩⟩
    iexists _
    iapply (pointsTo_join halves_disjoint)
    isplitl [H0]; · iexact H0
    iexact H1

/-- The writing scratch is its two slots. -/
theorem scratchO (c : Dev nD) :
    iprop(∃ f : BufOf (F := F) c scO, (scO.view.loc (c : Thread nD τ) ↦{fullShare} f)) ⊣⊢ (iprop(tile (F := F) c 0 0 36 ∗ tile (F := F) c 1 0 36) : sProp 𝕄) := by
  unfold tile
  have h := fun f : BufOf (F := F) c scO => (pointsTo_union (q := fullShare) (ℓ := scO.view.loc (c : Thread nD τ)) (f := f) halves_disjoint : _ ⊣⊢ (_ : sProp 𝕄))
  constructor
  · rw [halves]
    iintro ⟨%f, H⟩
    ihave H := (h f).1 $$ H
    icases H with ⟨H0, H1⟩
    isplitl [H0]
    · iexists f; iexact H0
    iexists f; iexact H1
  · rw [halves]
    iintro ⟨⟨%f, H0⟩, ⟨%g, H1⟩⟩
    iexists _
    iapply (pointsTo_join halves_disjoint)
    isplitl [H0]; · iexact H0
    iexact H1

/-- A free writing slot is its tiles and its five semaphores. -/
theorem freeO_eq (c : Dev nD) (p : ℕ) :
    freeO (F := F) c p ⊣⊢ iprop(tile (F := F) c p 0 36 ∗ five (F := F) fun j => semVal ((c : Thread nD τ), outS p j) 0) := by
  have h := tile_runs (F := F) c p
  unfold freeO
  constructor
  · iintro ⟨⟨T0, S0⟩, ⟨T1, S1⟩, ⟨T2, S2⟩, ⟨T3, S3⟩, ⟨T4, S4⟩⟩
    isplitl [T0 T1 T2 T3 T4]
    · iapply h.2
      isplitl [T0]; · iexact T0
      isplitl [T1]; · iexact T1
      isplitl [T2]; · iexact T2
      isplitl [T3]; · iexact T3
      iexact T4
    isplitl [S0]; · iexact S0
    isplitl [S1]; · iexact S1
    isplitl [S2]; · iexact S2
    isplitl [S3]; · iexact S3
    iexact S4
  · iintro ⟨HT, ⟨S0, S1, S2, S3, S4⟩⟩
    ihave HT := h.1 $$ HT
    icases HT with ⟨T0, T1, T2, T3, T4⟩
    isplitl [T0 S0]
    · isplitl [T0]; · iexact T0
      iexact S0
    isplitl [T1 S1]
    · isplitl [T1]; · iexact T1
      iexact S1
    isplitl [T2 S2]
    · isplitl [T2]; · iexact T2
      iexact S2
    isplitl [T3 S3]
    · isplitl [T3]; · iexact T3
      iexact S3
    isplitl [T4]; · iexact T4
    iexact S4

/-- What the launch gives the region and takes back, listed. -/
theorem given_eq (c : Dev nD) (G : (c : Dev nD) → (b : Ref sig .tc) → Buf (Elt F) ((c : Thread nD τ).loc b)) :
    (Pipeline.ΦDRV ownCells spec0 readRefs writtenRefs (V m) G c : sProp 𝕄)
      = iprop(((∃ f : BufOf (F := F) c scX, (scX.view.loc (c : Thread nD τ) ↦{fullShare} f)) ∗ (∃ f : BufOf (F := F) c scO, (scO.view.loc (c : Thread nD τ) ↦{fullShare} f)))
        ∗ (semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
        ∗ srcOn c (images m c) Finset.univ ∗ dstOn c (G c main_v21) Finset.univ) := by
  unfold Pipeline.ΦDRV
  rw [scopedRest0_eq, ownCells_list, BI.bigSep_eq_bigSepL_of_eq (S := readRefs) [main_v20] (by decide) (by decide), BI.bigSep_eq_bigSepL_of_eq (S := writtenRefs) [main_v21] (by decide) (by decide)]
  rfl

set_option maxHeartbeats 1000000 in
/-- The launch gives the state before the first point. -/
theorem state_in (c : Dev nD) : Pipeline.ΦDRV ownCells spec0 readRefs writtenRefs (V m) (V m) c ⊢ (dats m 0 c).Φ 0 := by
  rw [given_eq, show (dats m 0 c).Φ 0 = state m c 0 from rfl]
  have e1 : readSt c (images m c) 0 = iprop(freeX (F := F) c 0 ∗ freeX (F := F) c 1 ∗ srcOn c (images m c) Finset.univ) := by unfold readSt; rw [if_neg (by omega)]
  have e2 : writeSt c (before m c) (after m c) 0 = iprop(freeO (F := F) c 0 ∗ freeO (F := F) c 1 ∗ dstOn c (after m c) ∅ ∗ dstOn c (before m c) Finset.univ) := by
    unfold writeSt slotA slotB
    rw [if_neg (by omega), if_pos (by omega), if_pos rfl, onward_all, show (0 - 2 : ℕ) = 0 from rfl, below_none]
  unfold state
  rw [e1, e2]
  iintro ⟨⟨HX, HO⟩, ⟨C0, C1, A0, A1, A2, A3, A4, B0, B1, B2, B3, B4⟩, Hx, Hd⟩
  ihave HX := (scratchX c).1 $$ HX
  ihave HO := (scratchO c).1 $$ HO
  icases HX with ⟨X0, X1⟩
  icases HO with ⟨O0, O1⟩
  isplitl [X0 X1 C0 C1 Hx]
  · unfold freeX
    isplitl [X0 C0]
    · isplitl [X0]; · iexact X0
      iexact C0
    isplitl [X1 C1]
    · isplitl [X1]; · iexact X1
      iexact C1
    iexact Hx
  isplitl [O0 A0 A1 A2 A3 A4]
  · iapply (freeO_eq c 0).2
    isplitl [O0]; · iexact O0
    isplitl [A0]; · iexact A0
    isplitl [A1]; · iexact A1
    isplitl [A2]; · iexact A2
    isplitl [A3]; · iexact A3
    iexact A4
  isplitl [O1 B0 B1 B2 B3 B4]
  · iapply (freeO_eq c 1).2
    isplitl [O1]; · iexact O1
    isplitl [B0]; · iexact B0
    isplitl [B1]; · iexact B1
    isplitl [B2]; · iexact B2
    isplitl [B3]; · iexact B3
    iexact B4
  isplitr
  · unfold dstOn
    rw [pointsTo_empty]
    iempintro
  iexact Hd

set_option maxHeartbeats 1000000 in
/-- The state after the last point is what the launch takes back: the array written holds the result. -/
theorem state_out (c : Dev nD) : (dats m 0 c).Φ (Fin.last cfg0.N) ⊢ Pipeline.ΦDRV ownCells spec0 readRefs writtenRefs (V m) (afterAt m) c := by
  rw [given_eq, afterAt_written, show (dats m 0 c).Φ (Fin.last cfg0.N) = state m c grid0.N from rfl, show grid0.N = 8 by rw [N_0]]
  have e1 : readSt c (images m c) 8 = iprop(freeX (F := F) c 0 ∗ freeX (F := F) c 1 ∗ srcOn c (images m c) Finset.univ) := by unfold readSt; rw [if_neg (by omega)]
  have e2 : writeSt c (before m c) (after m c) 8 = iprop(freeO (F := F) c 0 ∗ freeO (F := F) c 1 ∗ dstOn c (after m c) Finset.univ) := by unfold writeSt; rw [if_pos rfl]
  unfold state
  rw [e1, e2]
  unfold freeX
  iintro ⟨⟨⟨X0, C0⟩, ⟨X1, C1⟩, Hx⟩, HF0, HF1, Hd⟩
  ihave HF0 := (freeO_eq c 0).1 $$ HF0
  ihave HF1 := (freeO_eq c 1).1 $$ HF1
  icases HF0 with ⟨O0, A0, A1, A2, A3, A4⟩
  icases HF1 with ⟨O1, B0, B1, B2, B3, B4⟩
  isplitl [X0 X1 O0 O1]
  · isplitl [X0 X1]
    · iapply (scratchX c).2
      isplitl [X0]; · iexact X0
      iexact X1
    iapply (scratchO c).2
    isplitl [O0]; · iexact O0
    iexact O1
  isplitl [C0 C1 A0 A1 A2 A3 A4 B0 B1 B2 B3 B4]
  · isplitl [C0]; · iexact C0
    isplitl [C1]; · iexact C1
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    iexact B4
  isplitl [Hx]; · iexact Hx
  iexact Hd

/-! ### The run -/

set_option maxHeartbeats 800000 in
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The contents at the end, as the later host lines leave them. -/
abbrev final (c : Dev nD) : Valuation τ sig (Elt F) :=
  StableHlo.after (List.flatten [hostOps1]) (Pipeline.withArrays spec0 c (Pipeline.withR (V0 m c) writtenRefs c (afterAt m c)) fun w => (dats m 0 c).arrAt w cfg0.N)

set_option backward.isDefEq.respectTransparency.types false in
set_option maxHeartbeats 800000 in
/-- The program runs to its end: every buffer outside the window's array holds what the host lines after make of the result, and every semaphore is at zero. -/
theorem run_all : θ_run defs (onTc (τ := τ) (main (F := F))) (s₀ m ρ)
    (fun r => (∀ c : Dev nD, ∀ b ∈ Pipeline.restRefs sig spec0, r.2.mem ((c : Thread nD τ).loc b) = final m c (Proc.devRef .tc b)) ∧ r.2.sem = fun _ => 0) :=
  Pipeline.θ_run_frame_dmaR_aroundV (Q' := _) cfgs (dats m) (0 : Fin 1) launch0 ownCells defs₀ Variants.none ownCells_facts readRefs writtenRefs readRefs_sub writtenRefs_sub m ρ main
    (hbody := fun c => (body_sound m c).loose) (hshare := fun c => (dats m 0 c).share_full fun _ => rfl)
    (howed := fun _ _ => rfl) (V₀ := V0 m) (opss := [hostOps1]) (hsub := sfx_sub) (hfresh := sfx_fresh) (hkeep := sfx_keeps) (G := afterAt m)
    (hmain := main_around m) (hA := dats_A m) (hin := state_in m) (hout := state_out m)
    (hQ' := fun r h => ⟨fun c b hb => (h.1 c).2 b hb, h.2⟩)

end Cert.KernelIdeal.Ring

end
-- ==== Proof.Ends.lean ====
module

public import proofs.«01_k».proof.Proof.Region

@[expose] public section

set_option maxRecDepth 16384

/-! # What the whole kernel program leaves: the arguments unchanged, the result the images' result transposed back -/

noncomputable section

namespace Cert.KernelIdeal.Ring

open Idealize.ShloMosaic Idealize.ShloMosaic.TcCoe
open Idealize.SL.Sem
open Cert.KernelIdeal Cert.KernelIdeal.Gen

variable {F : FTy → Type} [FloatOps F] [Named F]

variable (m : (ℓ : Loc nD τ sig) → Buf (Elt F) ℓ) (ρ : Dev nD → PrngReg)

/-- The buffers of the program's 23 arguments. -/
abbrev argRefs : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20,
    main_arg21, main_arg22]

/-- The buffers the host lines before the region write, in order. -/
abbrev headRefs : List (Ref sig .tc) :=
  [main_cst, main_v0, main_v1, main_cst_0, main_v2, main_v3, main_v4, main_cst_1, main_v5, main_v6, main_cst_2, main_v7, main_v8,
    main_v9, main_cst_3, main_v10, main_v11, main_cst_4, main_v12, main_v13, main_v14, main_cst_5, main_v15, main_v16, main_v17,
    main_v18, main_v19, main_v20]

/-- The host lines before the region leave every argument as it was. -/
theorem head_keeps (c : Dev nD) (b : Ref sig .tc) (hb : b ∈ argRefs) : V m c b = m ((c : Thread nD τ).loc b) :=
  StableHlo.after_of_writes_sub (W := headRefs) hostOps0 _ (StableHlo.forall_writes_sub_of_map rfl)
    ((by decide : ∀ b ∈ argRefs, b ∉ headRefs) b hb)

/-- The region and the host line after it leave every argument as it was. -/
theorem final_kept (c : Dev nD) (b : Ref sig .tc) (hb : b ∈ argRefs) :
    final m c (Proc.devRef .tc b) = m ((c : Thread nD τ).loc b) := by
  unfold final
  rw [StableHlo.after_of_writes_sub (W := [main_v22]) (r := b) (List.flatten [hostOps1]) _ (StableHlo.forall_writes_sub_of_map rfl)
      ((by decide : ∀ b ∈ argRefs, b ∉ [main_v22]) b hb),
    Pipeline.withArrays_of_ne spec0 c _ _ b ((by decide : ∀ b ∈ argRefs, ∀ w, Pipeline.arrRef spec0 w ≠ b) b hb),
    Pipeline.withR_of_not_mem _ writtenRefs c _ b ((by decide : ∀ b ∈ argRefs, b ∉ writtenRefs) b hb)]
  exact head_keeps m c b hb

/-- The result is the array the region wrote, its channels moved back to the last axis. -/
theorem final_result (c : Dev nD) :
    final m c (Proc.devRef .tc main_v22)
      = transpose S8x256x256x36 [0, 2, 3, 1] (after m c : (⟨S8x36x256x256, .f32⟩ : BufTy).Contents (Elt F)) transposes_S8x36x256x256_S8x256x256x36_0_2_3_1 := by
  unfold final
  simp only [hostOps1, List.flatten_cons, List.flatten_nil, List.append_nil, StableHlo.after_cons, StableHlo.after_nil]
  rw [StableHlo.unary_result', Pipeline.withArrays_of_ne spec0 c _ _ main_v21 (by decide), Pipeline.withR_of_mem _ writtenRefs c _ main_v21 (by decide),
    afterAt_written]

/-- The program runs to its end, with its result in place, every argument unchanged and every semaphore at zero. -/
theorem run_ends : θ_run defs (onTc (τ := τ) (main (F := F))) ⟨m, fun _ => 0, ρ⟩
    (fun r => (∀ c : Dev nD, r.2.mem ((c : Thread nD τ).loc main_v22)
          = transpose S8x256x256x36 [0, 2, 3, 1] (after m c : (⟨S8x36x256x256, .f32⟩ : BufTy).Contents (Elt F)) transposes_S8x36x256x256_S8x256x256x36_0_2_3_1
        ∧ ∀ b ∈ argRefs, r.2.mem ((c : Thread nD τ).loc b) = m ((c : Thread nD τ).loc b)) ∧ r.2.sem = fun _ => 0) :=
  (θ_run defs _ _).mono (fun r h => ⟨fun c => ⟨(h.1 c main_v22 (by decide)).trans (final_result m c), fun b hb =>
      (h.1 c b ((by decide : ∀ b ∈ argRefs, b ∈ Pipeline.restRefs sig spec0) b hb)).trans (final_kept m c b hb)⟩, h.2⟩)
    (run_all m ρ)

end Cert.KernelIdeal.Ring

end
-- ==== Proof.Transfer.lean ====
module

public import proofs.«01_k».proof.Defs
public import proofs.«01_k».proof.Proof.Ends

@[expose] public section

set_option maxRecDepth 100000

/-! # The kernel as written is the kernel with its constant named, read at machine floats

The named constant is, at machine floats, the float it was printed as. So the two programs are one there, and what
`Ends` proves of the one holds of the other. -/

noncomputable section

namespace Cert

open Idealize.ShloMosaic Idealize.ShloMosaic.TcCoe Idealize.SL
open Idealize.SL.Sem

/-- At machine floats a named constant is the float of its printed bits. -/
instance bitsNamed : Named Bits where
  named _ _ _ bits := Scalar.ofBits _ bits

variable [hK : Cert.Kernel.Facts] [hI : Cert.KernelIdeal.Facts]

/-- The two kernel bodies are one. -/
theorem body_same : @Cert.Kernel.cc0__zernike_kernel Bits _ _ = @Cert.KernelIdeal.cc0__zernike_kernel Bits _ _ _ := rfl

/-- So are the tables of region bodies. -/
theorem bodies_same : @Cert.Kernel.defs₀ Bits _ _ = @Cert.KernelIdeal.defs₀ Bits _ _ _ := by
  funext p l i
  obtain ⟨v, hv⟩ := l
  obtain rfl : v = 0 := by omega
  unfold Cert.Kernel.defs₀ Cert.KernelIdeal.defs₀
  rw [body_same]
  cases p <;> rfl

set_option maxHeartbeats 4000000 in
/-- So are the two host programs. -/
theorem main_same : @Cert.Kernel.main Bits _ _ = @Cert.KernelIdeal.main Bits _ _ := by
  funext c
  unfold Cert.Kernel.main Cert.KernelIdeal.main
  with_unfolding_all rfl

/-- So are the tables of every body the programs call. -/
theorem defs_same : @Cert.Kernel.defs Bits _ _ = @Cert.KernelIdeal.defs Bits _ _ _ :=
  congrArg (Pipeline.defs (Cert.Kernel.pcfgs (F := Bits))) bodies_same

/-- So are the programs of all the cores. -/
theorem cores_same : onTc (τ := Cert.Kernel.τ) (Cert.Kernel.main (F := Bits)) = onTc (Cert.KernelIdeal.main (F := Bits)) :=
  congrArg (onTc (τ := Cert.Kernel.τ)) main_same

/-- So what holds of the runs of one holds of the runs of the other. -/
theorem runs_same (s) : θ_run (Cert.Kernel.defs (F := Bits)) (onTc (Cert.Kernel.main (F := Bits))) s
    = θ_run (Cert.KernelIdeal.defs (F := Bits)) (onTc (Cert.KernelIdeal.main (F := Bits))) s := by
  rw [defs_same, cores_same]; rfl

end Cert

end
-- ==== Proof.Frames.lean ====
module

public import proofs.«01_k».proof.Proof.Transfer
public import proofs.«01_k».proof.Proof.Gen.Kernel
public import proofs.«01_k».proof.Proof.Gen.ReferenceIdeal
public import proofs.«01_k».proof.Proof.Gen.ReferenceIdeal.Run

@[expose] public section

set_option maxRecDepth 16384

/-! # The programs run to their end, arguments unchanged, semaphores at zero; naming the constant changes nothing else -/

noncomputable section

namespace Cert.Proof

open Idealize.ShloMosaic Idealize.ShloMosaic.TcCoe Idealize.SL.Sem

/-- A statement of every argument is the statement of each. -/
theorem each_arg {Q : Ref Cert.KernelIdeal.sig .tc → Prop} (h : ∀ b ∈ Cert.KernelIdeal.Ring.argRefs, Q b) :
    Q Cert.KernelIdeal.main_arg0 ∧ Q Cert.KernelIdeal.main_arg1 ∧ Q Cert.KernelIdeal.main_arg2 ∧ Q Cert.KernelIdeal.main_arg3
      ∧ Q Cert.KernelIdeal.main_arg4 ∧ Q Cert.KernelIdeal.main_arg5 ∧ Q Cert.KernelIdeal.main_arg6 ∧ Q Cert.KernelIdeal.main_arg7
      ∧ Q Cert.KernelIdeal.main_arg8 ∧ Q Cert.KernelIdeal.main_arg9 ∧ Q Cert.KernelIdeal.main_arg10 ∧ Q Cert.KernelIdeal.main_arg11
      ∧ Q Cert.KernelIdeal.main_arg12 ∧ Q Cert.KernelIdeal.main_arg13 ∧ Q Cert.KernelIdeal.main_arg14 ∧ Q Cert.KernelIdeal.main_arg15
      ∧ Q Cert.KernelIdeal.main_arg16 ∧ Q Cert.KernelIdeal.main_arg17 ∧ Q Cert.KernelIdeal.main_arg18 ∧ Q Cert.KernelIdeal.main_arg19
      ∧ Q Cert.KernelIdeal.main_arg20 ∧ Q Cert.KernelIdeal.main_arg21 ∧ Q Cert.KernelIdeal.main_arg22 := by
  simpa only [Cert.KernelIdeal.Ring.argRefs, List.forall_mem_cons, List.forall_mem_nil, List.not_mem_nil, false_implies, implies_true, and_true] using h

/-- The kernel with its constant named, over the reals: it runs to its end and leaves its arguments. -/
theorem frame_ideal : Cert.quiescent_KernelIdeal := fun m g _ =>
  (θ_run Cert.KernelIdeal.defs _ _).mono (fun _ h => ⟨fun c => each_arg (h.1 c).2, h.2⟩) (Cert.KernelIdeal.Ring.run_ends m g)

/-- The kernel as written, at machine floats: it runs to its end and leaves its arguments. -/
theorem frame_kernel : Cert.quiescent_Kernel := fun m g _ => by
  rw [runs_same]
  exact (θ_run Cert.KernelIdeal.defs _ _).mono (fun _ h => ⟨fun c => each_arg (h.1 c).2, h.2⟩) (Cert.KernelIdeal.Ring.run_ends (F := Bits) m g)

/-- The reference over the reals: it runs to its end and leaves its arguments; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant stands for the printed one. -/
theorem preserves : Cert.preserves_Kernel_KernelIdeal :=
  IdealRules.named_const.statement Cert.KernelIdeal.κ "two_over_log2" .f32 0x4038AA3B#32 _ rfl

end Cert.Proof

end
-- ==== Proof.Neighbours.lean ====
module

public import proofs.«01_k».proof.Proof.Channel
public import Idealize.ShloMosaic.Lib.ValueIdxCore
public import Idealize.ShloMosaic.Lib.Pipeline.Value
public import Idealize.ShloMosaic.PureOps.Ideal

@[expose] public section

/-! # The kernel's neighbourhood sum, element by element

`nine f h w` is the sum of `f` over the 3 × 3 neighbourhood of `(h, w)` in a 256 × 256 plane, a coordinate outside the plane
replaced by the nearest one inside. The kernel's padding, shifting and adding computes it. -/

noncomputable section

namespace Cert.Proof

open Idealize.ShloMosaic Idealize.ShloMosaic.ValueIdx

/-- The coordinate one before, at, or one after `h` (as `i` is 0, 1 or 2), kept inside `0 … 255`. -/
def near (h : Fin 256) (i : Fin 3) : Fin 256 := ⟨min (h.val + i.val - 1) 255, by omega⟩

/-- The sum over the 3 × 3 neighbourhood, edges repeated. -/
def nine (f : Fin 256 → Fin 256 → EReal) (h w : Fin 256) : EReal := ∑ i : Fin 3, ∑ j : Fin 3, f (near h i) (near w j)

/-- Row or column `r` of a plane padded by one on each side comes from this one of the plane. -/
def inner (r : Fin 258) : Fin 256 := ⟨min (r.val - 1) 255, by omega⟩

/-- Row `h + i` of the padded plane comes from the row `near h i`. -/
theorem inner_add (h : Fin 256) (i : Fin 3) (hlt : h.val + i.val < 258) : inner ⟨h.val + i.val, hlt⟩ = near h i := rfl

/-- The neighbourhood sum of a plane without negative elements is not negative. -/
theorem nine_nonneg (f : Fin 256 → Fin 256 → EReal) (hf : ∀ h w, 0 ≤ f h w) (h w : Fin 256) : 0 ≤ nine f h w :=
  Finset.sum_nonneg fun _ _ => Finset.sum_nonneg fun _ _ => hf _ _

end Cert.Proof

namespace Cert.KernelIdeal.Channel

open Idealize.ShloMosaic Idealize.ShloMosaic.ValueIdx
open Cert.Proof
open Cert.KernelIdeal Cert.KernelIdeal.Gen

section Any
variable {F : FTy → Type} [FloatOps F] [Named F]

/-- A padded row is a row of the image. -/
theorem padRows_apply (t : FVec F S256x256 .f32) (r : Fin 258) (w : Fin 256) :
    padRows t (ix2 r w) = t (ix2 (inner r) w) := by
  unfold padRows
  by_cases h0 : r.val = 0
  · refine (concatenate_apply_piece 0 _ _ (ix2 r w) 0 (by simp) S1x256 _ rfl rfl 0 rfl (ix2 0 w)
      (fun b hb => by fin_cases b; exact absurd rfl hb; rfl) (by show 0 + 0 = r.val; omega)).trans ?_
    refine extractStridedSlice_apply ![0, 0] t _ _ (ix2 (inner r) w) fun a => ?_
    fin_cases a
    · show min (r.val - 1) 255 = 0 + 0
      omega
    · show w.val = 0 + w.val
      omega
  by_cases h1 : r.val = 257
  · refine (concatenate_apply_piece 0 _ _ (ix2 r w) 2 (by simp) S1x256 _ rfl rfl 257 rfl (ix2 0 w)
      (fun b hb => by fin_cases b; exact absurd rfl hb; rfl) (by show 257 + 0 = r.val; omega)).trans ?_
    refine extractStridedSlice_apply ![255, 0] t _ _ (ix2 (inner r) w) fun a => ?_
    fin_cases a
    · show min (r.val - 1) 255 = 255 + 0
      omega
    · show w.val = 0 + w.val
      omega
  · have hr : r.val < 258 := r.isLt
    exact concatenate_apply_piece 0 _ _ (ix2 r w) 1 (by simp) S256x256 t rfl rfl 1 rfl (ix2 (inner r) w)
      (fun b hb => by fin_cases b; exact absurd rfl hb; rfl) (by show 1 + min (r.val - 1) 255 = r.val; omega)

/-- The column to the left, the first column its own left neighbour. -/
theorem leftCols_apply (t : FVec F S258x256 .f32) (r : Fin 258) (w : Fin 256) :
    leftCols t (ix2 r w) = t (ix2 r (near w 0)) := by
  unfold leftCols
  have hw : w.val < 256 := w.isLt
  by_cases h0 : w.val = 0
  · refine (concatenate_apply_piece 1 _ _ (ix2 r w) 0 (by simp) S258x1 _ rfl rfl 0 rfl (ix2 r 0)
      (fun b hb => by fin_cases b; rfl; exact absurd rfl hb) (by show 0 + 0 = w.val; omega)).trans ?_
    refine extractStridedSlice_apply ![0, 0] t _ _ (ix2 r (near w 0)) fun a => ?_
    fin_cases a
    · show r.val = 0 + r.val
      omega
    · show min (w.val + 0 - 1) 255 = 0 + 0
      omega
  · refine (concatenate_apply_piece 1 _ _ (ix2 r w) 1 (by simp) S258x255 _ rfl rfl 1 rfl (ix2 r ⟨w.val - 1, by omega⟩)
      (fun b hb => by fin_cases b; rfl; exact absurd rfl hb) (by show 1 + (w.val - 1) = w.val; omega)).trans ?_
    refine extractStridedSlice_apply ![0, 0] t _ _ (ix2 r (near w 0)) fun a => ?_
    fin_cases a
    · show r.val = 0 + r.val
      omega
    · show min (w.val + 0 - 1) 255 = 0 + (w.val - 1)
      omega

/-- The column to the right, the last column its own right neighbour. -/
theorem rightCols_apply (t : FVec F S258x256 .f32) (r : Fin 258) (w : Fin 256) :
    rightCols t (ix2 r w) = t (ix2 r (near w 2)) := by
  unfold rightCols
  have hw : w.val < 256 := w.isLt
  by_cases h0 : w.val = 255
  · refine (concatenate_apply_piece 1 _ _ (ix2 r w) 1 (by simp) S258x1 _ rfl rfl 255 rfl (ix2 r 0)
      (fun b hb => by fin_cases b; rfl; exact absurd rfl hb) (by show 255 + 0 = w.val; omega)).trans ?_
    refine extractStridedSlice_apply ![0, 255] t _ _ (ix2 r (near w 2)) fun a => ?_
    fin_cases a
    · show r.val = 0 + r.val
      omega
    · show min (w.val + 2 - 1) 255 = 255 + 0
      omega
  · refine (concatenate_apply_piece 1 _ _ (ix2 r w) 0 (by simp) S258x255 _ rfl rfl 0 rfl (ix2 r ⟨w.val, by omega⟩)
      (fun b hb => by fin_cases b; rfl; exact absurd rfl hb) (by show 0 + w.val = w.val; omega)).trans ?_
    refine extractStridedSlice_apply ![0, 1] t _ _ (ix2 r (near w 2)) fun a => ?_
    fin_cases a
    · show r.val = 0 + r.val
      omega
    · show min (w.val + 2 - 1) 255 = 1 + w.val
      omega

/-- A row of a padded image, counted from the row above. -/
theorem row_apply (t : FVec F S258x256 .f32) (i : Fin 3) (off : Fin 2 → ℕ) (hoff : off = ![i.val, 0]) (hs : S258x256.Slices off S256x256)
    (h w : Fin 256) : extractStridedSlice S256x256 off t hs (ix2 h w) = t (ix2 ⟨h.val + i.val, by omega⟩ w) := by
  subst hoff
  refine extractStridedSlice_apply _ t _ _ _ fun a => ?_
  fin_cases a
  · show h.val + i.val = i.val + h.val
    omega
  · show w.val = 0 + w.val
    omega

end Any

/-- The middle neighbour is the element itself. -/
theorem near_one (w : Fin 256) : near w 1 = w := Fin.ext (by show min (w.val + 1 - 1) 255 = w.val; omega)

/-- Three neighbouring columns of a padded image. -/
theorem colSum_apply (t : FVec Ideal S256x256 .f32) (h w : Fin 256) (i : Fin 3) :
    colSum (padRows t) (ix2 ⟨h.val + i.val, by omega⟩ w) = ∑ j : Fin 3, t (ix2 (near h i) (near w j)) := by
  show (leftCols (padRows t) _ + padRows t _) + rightCols (padRows t) _ = _
  rw [leftCols_apply, rightCols_apply, padRows_apply, padRows_apply, padRows_apply, inner_add, Fin.sum_univ_three, near_one]

/-- The kernel's neighbourhood sum. -/
theorem boxSum_apply (t : FVec Ideal S256x256 .f32) (h w : Fin 256) :
    boxSum t (ix2 h w) = nine (fun a b => t (ix2 a b)) h w := by
  show (extractStridedSlice S256x256 ![0, 0] (colSum (padRows t)) _ (ix2 h w) + extractStridedSlice S256x256 ![1, 0] (colSum (padRows t)) _ (ix2 h w))
    + extractStridedSlice S256x256 ![2, 0] (colSum (padRows t)) _ (ix2 h w) = _
  rw [row_apply _ 0 ![0, 0] rfl, row_apply _ 1 ![1, 0] rfl, row_apply _ 2 ![2, 0] rfl, colSum_apply, colSum_apply, colSum_apply]
  exact (Fin.sum_univ_three (fun i : Fin 3 => ∑ j : Fin 3, (t (ix2 (near h i) (near w j)) : EReal))).symm

end Cert.KernelIdeal.Channel

end
-- ==== Proof.Readings.lean ====
module

public import Idealize.ShloMosaic.Lib.ValueIdxCore
public import Idealize.ShloMosaic.Lib.IdealHost
public import Idealize.ShloMosaic.PureOps.Ideal.Laws

@[expose] public section

/-! # Arrays read by coordinates, and the float literals of the two programs as numbers -/

noncomputable section

namespace Cert.Proof

open Idealize.ShloMosaic Idealize.ShloMosaic.ValueIdx

/-- The one element of an array of one element. -/
def only {α : Type} (x : (⟨1, ![1]⟩ : Shape).Idx → α) : α := x fun | ⟨0, _⟩ => (0 : Fin 1)

/-- Any index of an array of one element reads that element. -/
theorem eq_only {α : Type} (x : (⟨1, ![1]⟩ : Shape).Idx → α) (i : (⟨1, ![1]⟩ : Shape).Idx) : x i = only x := by
  refine congrArg x (funext fun a => Fin.ext ?_)
  match a with
  | ⟨0, _⟩ => exact Nat.lt_one_iff.1 (i 0).isLt

/-- An array of three axes at three coordinates. -/
def at3 {α : Type} {n0 n1 n2 : ℕ} (x : (⟨3, ![n0, n1, n2]⟩ : Shape).Idx → α) (a : Fin n0) (b : Fin n1) (c : Fin n2) : α := x (ix3 a b c)

/-- An element of such an array is the one at its three coordinates. -/
theorem eq_at3 {α : Type} {n0 n1 n2 : ℕ} (x : (⟨3, ![n0, n1, n2]⟩ : Shape).Idx → α) (i : (⟨3, ![n0, n1, n2]⟩ : Shape).Idx) :
    x i = at3 x (i 0) (i 1) (i 2) := congrArg x (eq_ix3 i)

/-- An array of four axes at four coordinates. -/
def at4 {α : Type} {n0 n1 n2 n3 : ℕ} (x : (⟨4, ![n0, n1, n2, n3]⟩ : Shape).Idx → α) (a : Fin n0) (b : Fin n1) (c : Fin n2) (d : Fin n3) : α :=
  x (ix4 a b c d)

/-- An element of such an array is the one at its four coordinates. -/
theorem eq_at4 {α : Type} {n0 n1 n2 n3 : ℕ} (x : (⟨4, ![n0, n1, n2, n3]⟩ : Shape).Idx → α) (i : (⟨4, ![n0, n1, n2, n3]⟩ : Shape).Idx) :
    x i = at4 x (i 0) (i 1) (i 2) (i 3) := congrArg x (eq_ix4 i)

/-- The literal 0. -/
theorem literal_zero : (FloatOps.ofBits .f32 0x00000000#32 : Ideal .f32) = (0 : EReal) := Ideal.ofBits_zero_f32
/-- The literal 1. -/
theorem literal_one : (FloatOps.ofBits .f32 0x3F800000#32 : Ideal .f32) = (1 : EReal) := Ideal.ofBits_one_f32

end Cert.Proof

end
-- ==== Proof.Algebra.lean ====
module

public import Idealize.ShloMosaic.PureOps.Ideal
public import Idealize.ShloMosaic.PureOps.Ideal.Laws
public import Mathlib.Data.EReal.Inv

@[expose] public section

/-! # The two forms of one element, over the extended reals

The kernel squashes by `a - 2 a / (1 + 2 ^ (u g))` with `2 / log 2` inside `g`; the reference by `a tanh (α gain u)`. Here they are
shown equal for a real amplitude `a`, a positive saturation `p` and a nonnegative neighbourhood sum `s`, whatever the other
numbers are, infinities included. -/

noncomputable section

namespace Cert.Proof.Algebra

open Idealize.ShloMosaic

/-- The scale the kernel folds into its exponent: `2 / log 2`. -/
abbrev scale : EReal := ((2 * (Real.log 2)⁻¹ : ℝ) : EReal)

/-- The scale is positive. -/
theorem scale_pos : (0 : ℝ) < 2 * (Real.log 2)⁻¹ := by
  have := Real.log_pos (by norm_num : (1 : ℝ) < 2)
  positivity

/-- `2 ^ (v · 2 / log 2) = e ^ (2 v)` for a real `v`. -/
theorem rpow_scaled (v : ℝ) : Real.rpow 2 (2 * (Real.log 2)⁻¹ * v) = Real.exp (2 * v) := by
  have hl : Real.log 2 ≠ 0 := (Real.log_pos (by norm_num : (1 : ℝ) < 2)).ne'
  show (2 : ℝ) ^ (2 * (Real.log 2)⁻¹ * v) = _
  rw [Real.rpow_def_of_pos (by norm_num)]
  congr 1
  field_simp

/-- `a - 2 a / (1 + e ^ (2 v)) = a tanh v` for real numbers. -/
theorem real_squash (a v : ℝ) : a - 2 * a * (1 + Real.exp (2 * v))⁻¹ = a * Real.tanh v := by
  have h1 : Real.exp v ≠ 0 := (Real.exp_pos v).ne'
  have h2 : (1 + Real.exp (2 * v)) ≠ 0 := by positivity
  have e2 : Real.exp (2 * v) = Real.exp v * Real.exp v := by rw [← Real.exp_add]; congr 1; ring
  have h3 : (1 + Real.exp v * Real.exp v) ≠ 0 := e2 ▸ h2
  rw [Real.tanh_eq_sinh_div_cosh, Real.sinh_eq, Real.cosh_eq, Real.exp_neg, e2]
  field_simp
  ring

/-- The squash of `v`, its exponent scaled, is `a tanh v`: for a real amplitude and any `v`. -/
theorem squash_eq (a : ℝ) (v : EReal) :
    (a : EReal) - Ideal.div (2 * (a : EReal)) (1 + Ideal.exp2 (scale * v)) = (a : EReal) * Ideal.tanh v := by
  have two : (2 : EReal) * (a : EReal) = ((2 * a : ℝ) : EReal) := by rw [EReal.coe_mul]; rfl
  induction v using EReal.rec with
  | bot =>
    rw [EReal.coe_mul_bot_of_pos scale_pos]
    show (a : EReal) - Ideal.div (2 * (a : EReal)) (1 + 0) = (a : EReal) * (-1)
    rw [add_zero, Ideal.div, if_neg one_ne_zero, inv_one, mul_one, two, ← EReal.coe_sub]
    rw [show (-1 : EReal) = ((-1 : ℝ) : EReal) by simp, ← EReal.coe_mul]
    congr 1
    ring
  | top =>
    rw [EReal.coe_mul_top_of_pos scale_pos]
    show (a : EReal) - Ideal.div (2 * (a : EReal)) (1 + ⊤) = (a : EReal) * 1
    rw [show (1 : EReal) + ⊤ = ⊤ from EReal.coe_add_top 1, Ideal.div, if_neg (by simp), EReal.inv_top, mul_zero, mul_one, sub_zero]
  | coe v =>
    rw [← EReal.coe_mul]
    show (a : EReal) - Ideal.div (2 * (a : EReal)) (1 + ((Real.rpow 2 (2 * (Real.log 2)⁻¹ * v) : ℝ) : EReal)) = (a : EReal) * ((Real.tanh v : ℝ) : EReal)
    have hne : ((1 + Real.exp (2 * v) : ℝ) : EReal) ≠ 0 := by
      have : (0 : ℝ) < 1 + Real.exp (2 * v) := by positivity
      exact_mod_cast this.ne'
    rw [rpow_scaled, show (1 : EReal) = ((1 : ℝ) : EReal) from rfl, ← EReal.coe_add, Ideal.div, if_neg hne, two, ← EReal.coe_inv,
      ← EReal.coe_mul, ← EReal.coe_sub, ← EReal.coe_mul, real_squash]

/-- The element of a special channel. -/
theorem special_eq (a : ℝ) (al u : EReal) :
    (a : EReal) - Ideal.div (2 * (a : EReal)) (1 + Ideal.exp2 (u * (scale * al))) = (a : EReal) * Ideal.tanh (al * u) := by
  rw [← squash_eq, mul_left_comm, mul_comm u al]

/-- The element of a coupled channel: `s` the neighbourhood sum, `p` the saturation, `gs` and `al` the group's gain and slope. -/
theorem coupled_eq (a : ℝ) (al gs p s u : EReal) (hp : 0 < p) (hs : 0 ≤ s) :
    (a : EReal) - Ideal.div (2 * (a : EReal)) (1 + Ideal.exp2 (u * Ideal.div (scale * (al * gs)) (1 + s * Ideal.div 1 p)))
      = (a : EReal) * Ideal.tanh (al * Ideal.div gs (1 + Ideal.div s p) * u) := by
  have hp0 : p ≠ 0 := hp.ne'
  have hd : (1 : EReal) + s * p⁻¹ ≠ 0 := by
    have h : (0 : EReal) ≤ s * p⁻¹ := mul_nonneg hs (EReal.inv_nonneg_of_nonneg hp.le)
    exact ((by norm_num : (0 : EReal) < 1).trans_le (le_add_of_nonneg_right h)).ne'
  rw [← squash_eq]
  simp only [Ideal.div, if_neg hp0, one_mul, if_neg hd]
  have h : u * (scale * (al * gs) * (1 + s * p⁻¹)⁻¹) = scale * (al * (gs * (1 + s * p⁻¹)⁻¹) * u) := by ac_rfl
  rw [h]

/-- `sqrt (u u + 0)` is the absolute value of `u`. -/
theorem sqrt_square (u : EReal) : Ideal.sqrt (u * u + 0) = max u (-u) := by
  rw [add_zero]
  induction u using EReal.rec with
  | bot => rw [EReal.bot_mul_bot]; show (⊤ : EReal) = _; simp
  | top => rw [EReal.top_mul_top]; show (⊤ : EReal) = _; simp
  | coe r =>
    rw [← EReal.coe_mul]
    show (if r * r < 0 then ⊥ else ((Real.sqrt (r * r) : ℝ) : EReal)) = _
    rw [if_neg (not_lt.2 (mul_self_nonneg r)), Real.sqrt_mul_self_eq_abs, ← EReal.coe_neg]
    exact EReal.coe_strictMono.monotone.map_max

/-- An absolute value is not negative. -/
theorem abs_nonneg' (u : EReal) : 0 ≤ max u (-u) := by
  rcases le_total 0 u with h | h
  · exact le_max_of_le_left h
  · exact le_max_of_le_right (EReal.neg_nonneg.2 h)

end Cert.Proof.Algebra

end
-- ==== Proof.KernelValue.lean ====
module

public import proofs.«01_k».proof.Proof.Neighbours
public import proofs.«01_k».proof.Proof.Readings
public import proofs.«01_k».proof.Proof.Algebra
public import Idealize.ShloMosaic.Lib.ValueLayout

@[expose] public section

/-! # The kernel's channels, element by element, over the extended reals

The named constant is `2 / log 2`. `hardSum X o n hn b` is the sum over the channels `o … o + n - 1` of an image of the
absolute value of the channel plus the bias `b`. -/

noncomputable section

namespace Cert.KernelIdeal.Channel

open Idealize.ShloMosaic Idealize.ShloMosaic.ValueIdx
open Cert.Proof Cert.Proof.Algebra
open Cert.KernelIdeal Cert.KernelIdeal.Gen

variable (P : S22.Idx → Elt Ideal .f32) (X : S36x256x256.Idx → Elt Ideal .f32)

/-- A parameter times the named constant. -/
theorem scaled_eq (v : Elt Ideal .f32) : (scaled (F := Ideal) v : EReal) = scale * v := rfl

/-- A channel plus a bias. -/
theorem shifted_apply (ch : Fin 36) (b : Elt Ideal .f32) (h w : Fin 256) :
    shifted (F := Ideal) (chan X ch) b (ix2 h w) = (at3 X ch h w : EReal) + b := by
  show (shapeCast S256x256 (chan X ch) shapeCasts_S1x256x256_S256x256 (ix2 h w) : EReal) + b = _
  rw [shapeCast_1ab_ab_apply]
  refine congrArg (fun z : EReal => z + b) (congrArg X (funext fun a => Fin.ext ?_))
  match a with
  | ⟨0, _⟩ => show ch.val + 1 * 0 = ch.val; omega
  | ⟨1, _⟩ => show 0 + 1 * h.val = h.val; omega
  | ⟨2, _⟩ => show 0 + 1 * w.val = w.val; omega

/-- The kernel's way of computing `a · tanh`. -/
theorem squash_apply (u g : FVec Ideal S256x256 .f32) (a a2 : Elt Ideal .f32) (i : S256x256.Idx) :
    squash (F := Ideal) u g a a2 i = (a : EReal) - Ideal.div a2 (1 + Ideal.exp2 (u i * g i)) := by
  show (a : EReal) - Ideal.div a2 ((FloatOps.ofBits .f32 0x3F800000#32 : Ideal .f32) + Ideal.exp2 (u i * g i)) = _
  rw [literal_one]

/-- The sum over the channels `o … o + n - 1` of the absolute value of the channel plus the bias. -/
def hardSum (o n : ℕ) (hn : o + n ≤ 36) (b : EReal) (h w : Fin 256) : EReal :=
  ∑ k : Fin n, max ((at3 X (⟨o + k.val, by omega⟩ : Fin 36) h w : EReal) + b) (-((at3 X (⟨o + k.val, by omega⟩ : Fin 36) h w : EReal) + b))

/-- Adding the absolute values of a list of channels one by one adds their sum. -/
theorem fold_apply (b : Elt Ideal .f32) (h w : Fin 256) (cs : List (Fin 36)) (t : FVec Ideal S256x256 .f32) :
    cs.foldl (fun t c => addf t (absf (shifted (F := Ideal) (chan X c) b))) t (ix2 h w)
      = (t (ix2 h w) : EReal) + (cs.map fun c => max ((at3 X c h w : EReal) + b) (-((at3 X c h w : EReal) + b))).sum := by
  induction cs generalizing t with
  | nil => exact (add_zero (t (ix2 h w) : EReal)).symm
  | cons c cs ih =>
    rw [List.foldl_cons, ih, List.map_cons, List.sum_cons, ← add_assoc]
    refine congrArg (fun z : EReal => (t (ix2 h w) : EReal) + z + _) ?_
    show max (shifted (F := Ideal) (chan X c) b (ix2 h w) : EReal) (-(shifted (F := Ideal) (chan X c) b (ix2 h w) : EReal)) = _
    rw [shifted_apply]

/-- The sum of the absolute values of the channels of a group. -/
theorem absSum_apply (b : Elt Ideal .f32) (o n : ℕ) (hn : o + n ≤ 36) (c0 : Fin 36) (cs : List (Fin 36))
    (hcs : c0 :: cs = List.ofFn fun k : Fin n => (⟨o + k.val, by omega⟩ : Fin 36)) (h w : Fin 256) :
    absSum (F := Ideal) X b c0 cs (ix2 h w) = hardSum X o n hn b h w := by
  unfold absSum
  rw [fold_apply]
  have first : (absf (shifted (F := Ideal) (chan X c0) b) (ix2 h w) : EReal) = max ((at3 X c0 h w : EReal) + b) (-((at3 X c0 h w : EReal) + b)) := by
    show max (shifted (F := Ideal) (chan X c0) b (ix2 h w) : EReal) (-(shifted (F := Ideal) (chan X c0) b (ix2 h w) : EReal)) = _
    rw [shifted_apply]
  rw [first, ← List.sum_cons, ← List.map_cons (f := fun c => max ((at3 X c h w : EReal) + b) (-((at3 X c h w : EReal) + b))), hcs, List.map_ofFn,
    List.sum_ofFn]
  rfl

/-- The gain of a coupled group. -/
theorem groupGain_apply (kb ki kg : Fin 22) (o n : ℕ) (hn : o + n ≤ 36) (c0 : Fin 36) (cs : List (Fin 36))
    (hcs : c0 :: cs = List.ofFn fun k : Fin n => (⟨o + k.val, by omega⟩ : Fin 36)) (h w : Fin 256) :
    groupGain (F := Ideal) P X kb ki kg c0 cs (ix2 h w)
      = Ideal.div (scale * (param P kg : EReal)) (1 + nine (hardSum X o n hn (param P kb)) h w * (param P ki : EReal)) := by
  show Ideal.div (scaled (F := Ideal) (param P kg)) ((FloatOps.ofBits .f32 0x3F800000#32 : Ideal .f32)
    + (boxSum (F := Ideal) (absSum X (param P kb) c0 cs) (ix2 h w) : EReal) * (param P ki : EReal)) = _
  rw [literal_one, boxSum_apply, scaled_eq]
  simp only [absSum_apply X _ o n hn c0 cs hcs]

end Cert.KernelIdeal.Channel

end
-- ==== Proof.Stages.lean ====
module

public import proofs.«01_k».proof.Proof.Gen.ReferenceIdeal.Read
public import proofs.«01_k».proof.Proof.Gen.ReferenceIdeal
public import proofs.«01_k».proof.Proof.Readings
public import proofs.«01_k».proof.Proof.Neighbours

@[expose] public section

/-! # The reference's stages, element by element, over the extended reals -/

noncomputable section

namespace Cert.ReferenceIdeal.Stages

open Idealize.ShloMosaic Idealize.ShloMosaic.ValueIdx
open Cert.Proof
open Cert.ReferenceIdeal Cert.ReferenceIdeal.Gen Cert.ReferenceIdeal.Read

/-- The array of coefficients. -/
abbrev Input : Type := (⟨S8x256x256x36, .f32⟩ : BufTy).Contents (Elt Ideal)
/-- A parameter, an array of one number. -/
abbrev One : Type := (⟨S1, .f32⟩ : BufTy).Contents (Elt Ideal)

variable (x0 : Input) (x1 x2 x3 x5 x6 x7 x8 x9 x10 x11 x12 x13 x14 x15 x16 x17 x18 x19 x20 x21 x22 : One)

/-- The sum over a group's channels `o … o + n - 1` of `sqrt (u u + e)` where `u` is the channel plus the bias `b`. -/
def softSum (o n : ℕ) (hn : o + n ≤ 36) (b e : EReal) (a : Fin 8) (h w : Fin 256) : EReal :=
  ∑ k : Fin n, Ideal.sqrt (((at4 x0 a h w (⟨o + k.val, by omega⟩ : Fin 36) : EReal) + b) * (at4 x0 a h w (⟨o + k.val, by omega⟩ : Fin 36) + b) + e)

/-- An element of a coupled channel: `z` the input, `s` the neighbourhood sum. -/
def coupled (a al gs p s z b : EReal) : EReal := a * Ideal.tanh (al * Ideal.div gs (1 + Ideal.div s p) * (z + b))

/-- A special channel. -/
theorem special_apply (a : Fin 8) (h w : Fin 256) (c : Fin 3) :
    val_main_v10 (F := Ideal) x0 x1 x2 x3 (ix4 a h w c)
      = (only x3 : EReal) * Ideal.tanh ((only x2 : EReal) * ((at4 x0 a h w (⟨c.val, by omega⟩ : Fin 36) : EReal) + only x1)) := by
  simp only [val_main_v10_apply, val_main_v9_apply, val_main_v8_apply, val_main_v7_apply, val_main_v6_apply, val_main_v5_apply, val_main_v4_apply,
    val_main_v3_apply, val_main_v2_apply, val_main_v1_apply, val_main_v0_apply, eq_only, eq_at4 x0]
  rfl

/-- The low group's sum of soft absolute values. -/
theorem low_sum (a : Fin 8) (h w : Fin 256) :
    val_main_v22 (F := Ideal) x0 x5 x8 (ix3 a h w) = softSum x0 3 3 (by decide) (only x5) (only x8) a h w := by
  rw [val_main_v22_apply, show val_main_cst (F := Ideal) (Shape.Idx.first h_S_) = (0 : EReal) from literal_zero, zero_add]
  refine Finset.sum_congr rfl fun k _ => ?_
  simp only [val_main_v21_apply, val_main_v20_apply, val_main_v19_apply, val_main_v18_apply, val_main_v17_apply, val_main_v16_apply, val_main_v15_apply, val_main_v14_apply, val_main_v11_apply, eq_only, eq_at4 x0]
  rfl

/-- The mid group's sum of soft absolute values. -/
theorem mid_sum (a : Fin 8) (h w : Fin 256) :
    val_main_v31 (F := Ideal) x0 x11 x14 (ix3 a h w) = softSum x0 6 9 (by decide) (only x11) (only x14) a h w := by
  rw [val_main_v31_apply, show val_main_cst_0 (F := Ideal) (Shape.Idx.first h_S_) = (0 : EReal) from literal_zero, zero_add]
  refine Finset.sum_congr rfl fun k _ => ?_
  simp only [val_main_v30_apply, val_main_v29_apply, val_main_v28_apply, val_main_v27_apply, val_main_v26_apply, val_main_v25_apply, val_main_v24_apply, val_main_v23_apply, val_main_v12_apply, eq_only, eq_at4 x0]
  rfl

/-- The high group's sum of soft absolute values. -/
theorem high_sum (a : Fin 8) (h w : Fin 256) :
    val_main_v40 (F := Ideal) x0 x17 x20 (ix3 a h w) = softSum x0 15 21 (by decide) (only x17) (only x20) a h w := by
  rw [val_main_v40_apply, show val_main_cst_1 (F := Ideal) (Shape.Idx.first h_S_) = (0 : EReal) from literal_zero, zero_add]
  refine Finset.sum_congr rfl fun k _ => ?_
  simp only [val_main_v39_apply, val_main_v38_apply, val_main_v37_apply, val_main_v36_apply, val_main_v35_apply, val_main_v34_apply, val_main_v33_apply, val_main_v32_apply, val_main_v13_apply, eq_only, eq_at4 x0]
  rfl

/-- The stack of the three groups' sums at a plane of the first group. -/
theorem stack_low (a : Fin 8) (h w : Fin 256) :
    at3 (val_main_v41 (F := Ideal) x0 x5 x8 x11 x14 x17 x20) (⟨a.val, by omega⟩ : Fin 24) h w = val_main_v22 (F := Ideal) x0 x5 x8 (ix3 a h w) := by
  unfold at3 val_main_v41
  exact concatenate_apply_piece 0 _ _ (ix3 (⟨a.val, by omega⟩ : Fin 24) h w) 0 (by simp) S8x256x256 _ rfl rfl 0 rfl (ix3 a h w)
    (fun b hb => by fin_cases b; exact absurd rfl hb; rfl; rfl) (Nat.zero_add _)

/-- The stack at a plane of the second group. -/
theorem stack_mid (a : Fin 8) (h w : Fin 256) :
    at3 (val_main_v41 (F := Ideal) x0 x5 x8 x11 x14 x17 x20) (⟨8 + a.val, by omega⟩ : Fin 24) h w = val_main_v31 (F := Ideal) x0 x11 x14 (ix3 a h w) := by
  unfold at3 val_main_v41
  exact concatenate_apply_piece 0 _ _ (ix3 (⟨8 + a.val, by omega⟩ : Fin 24) h w) 1 (by simp) S8x256x256 _ rfl rfl 8 rfl (ix3 a h w)
    (fun b hb => by fin_cases b; exact absurd rfl hb; rfl; rfl) rfl

/-- The stack at a plane of the third group. -/
theorem stack_high (a : Fin 8) (h w : Fin 256) :
    at3 (val_main_v41 (F := Ideal) x0 x5 x8 x11 x14 x17 x20) (⟨16 + a.val, by omega⟩ : Fin 24) h w = val_main_v40 (F := Ideal) x0 x17 x20 (ix3 a h w) := by
  unfold at3 val_main_v41
  exact concatenate_apply_piece 0 _ _ (ix3 (⟨16 + a.val, by omega⟩ : Fin 24) h w) 2 (by simp) S8x256x256 _ rfl rfl 16 rfl (ix3 a h w)
    (fun b hb => by fin_cases b; exact absurd rfl hb; rfl; rfl) rfl

/-- The stack padded by a row on each side. -/
theorem rows_apply (g : Fin 24) (r : Fin 258) (w : Fin 256) :
    val_main_v44 (F := Ideal) x0 x5 x8 x11 x14 x17 x20 (ix3 g r w) = at3 (val_main_v41 (F := Ideal) x0 x5 x8 x11 x14 x17 x20) g (inner r) w := by
  unfold val_main_v44
  have hr : r.val < 258 := r.isLt
  by_cases h0 : r.val = 0
  · refine (concatenate_apply_piece 1 _ _ (ix3 g r w) 0 (by simp) S24x1x256 _ rfl rfl 0 rfl (ix3 g 0 w)
      (fun b hb => by fin_cases b; rfl; exact absurd rfl hb; rfl) (by show 0 + 0 = r.val; omega)).trans ?_
    rw [val_main_v42_apply, eq_at3 (val_main_v41 (F := Ideal) x0 x5 x8 x11 x14 x17 x20)]
    exact congrArg (fun z => at3 (val_main_v41 (F := Ideal) x0 x5 x8 x11 x14 x17 x20) g z w) (Fin.ext (by show 0 = min (r.val - 1) 255; omega))
  by_cases h1 : r.val = 257
  · refine (concatenate_apply_piece 1 _ _ (ix3 g r w) 2 (by simp) S24x1x256 _ rfl rfl 257 rfl (ix3 g 0 w)
      (fun b hb => by fin_cases b; rfl; exact absurd rfl hb; rfl) (by show 257 + 0 = r.val; omega)).trans ?_
    rw [val_main_v43_apply, eq_at3 (val_main_v41 (F := Ideal) x0 x5 x8 x11 x14 x17 x20)]
    exact congrArg (fun z => at3 (val_main_v41 (F := Ideal) x0 x5 x8 x11 x14 x17 x20) g z w) (Fin.ext (by show 255 + 0 = min (r.val - 1) 255; omega))
  · exact concatenate_apply_piece 1 _ _ (ix3 g r w) 1 (by simp) S24x256x256 _ rfl rfl 1 rfl (ix3 g (inner r) w)
      (fun b hb => by fin_cases b; rfl; exact absurd rfl hb; rfl) (by show 1 + min (r.val - 1) 255 = r.val; omega)

/-- The stack padded by a row on each side, read at any index. -/
theorem rows_at (i : S24x258x256.Idx) :
    val_main_v44 (F := Ideal) x0 x5 x8 x11 x14 x17 x20 i = at3 (val_main_v41 (F := Ideal) x0 x5 x8 x11 x14 x17 x20) (i 0) (inner (i 1)) (i 2) := by
  rw [eq_ix3 i]
  exact rows_apply _ _ _ _ _ _ _ _ _ _

/-- The stack padded by a row and a column on each side. -/
theorem padded_apply (g : Fin 24) (r q : Fin 258) :
    val_main_v47 (F := Ideal) x0 x5 x8 x11 x14 x17 x20 (ix3 g r q) = at3 (val_main_v41 (F := Ideal) x0 x5 x8 x11 x14 x17 x20) g (inner r) (inner q) := by
  unfold val_main_v47
  have hq : q.val < 258 := q.isLt
  by_cases h0 : q.val = 0
  · refine (concatenate_apply_piece 2 _ _ (ix3 g r q) 0 (by simp) S24x258x1 _ rfl rfl 0 rfl (ix3 g r 0)
      (fun b hb => by fin_cases b; rfl; rfl; exact absurd rfl hb) (by show 0 + 0 = q.val; omega)).trans ?_
    rw [val_main_v45_apply, rows_at]
    exact congrArg (at3 (val_main_v41 (F := Ideal) x0 x5 x8 x11 x14 x17 x20) g (inner r)) (Fin.ext (by show 0 = min (q.val - 1) 255; omega))
  by_cases h1 : q.val = 257
  · refine (concatenate_apply_piece 2 _ _ (ix3 g r q) 2 (by simp) S24x258x1 _ rfl rfl 257 rfl (ix3 g r 0)
      (fun b hb => by fin_cases b; rfl; rfl; exact absurd rfl hb) (by show 257 + 0 = q.val; omega)).trans ?_
    rw [val_main_v46_apply, rows_at]
    exact congrArg (at3 (val_main_v41 (F := Ideal) x0 x5 x8 x11 x14 x17 x20) g (inner r)) (Fin.ext (by show 255 + 0 = min (q.val - 1) 255; omega))
  · exact (concatenate_apply_piece 2 _ _ (ix3 g r q) 1 (by simp) S24x258x256 _ rfl rfl 1 rfl (ix3 g r (inner q))
      (fun b hb => by fin_cases b; rfl; rfl; exact absurd rfl hb) (by show 1 + min (q.val - 1) 255 = q.val; omega)).trans (rows_apply _ _ _ _ _ _ _ _ _ _)

/-- A shifted copy of the padded stack is the stack at the neighbour. -/
theorem shifted_at (k : S24x258x258.Idx) (g : Fin 24) (h w : Fin 256) (i j : Fin 3) (hg : (k 0).val = g.val) (hr : (k 1).val = i.val + h.val)
    (hq : (k 2).val = j.val + w.val) :
    val_main_v47 (F := Ideal) x0 x5 x8 x11 x14 x17 x20 k = at3 (val_main_v41 (F := Ideal) x0 x5 x8 x11 x14 x17 x20) g (near h i) (near w j) := by
  rw [eq_ix3 k]
  refine (padded_apply _ _ _ _ _ _ _ _ _ _).trans ?_
  have e0 : (k 0 : Fin 24) = g := Fin.ext hg
  have e1 : inner (k 1) = near h i := Fin.ext (by show min ((k 1).val - 1) 255 = min (h.val + i.val - 1) 255; rw [hr, Nat.add_comm])
  have e2 : inner (k 2) = near w j := Fin.ext (by show min ((k 2).val - 1) 255 = min (w.val + j.val - 1) 255; rw [hq, Nat.add_comm])
  exact (congrArg (fun a => at3 (val_main_v41 (F := Ideal) x0 x5 x8 x11 x14 x17 x20) a (inner (k 1)) (inner (k 2))) e0).trans (congrArg₂ (at3 (val_main_v41 (F := Ideal) x0 x5 x8 x11 x14 x17 x20) g) e1 e2)

/-- The neighbourhood sums of the stack. -/
theorem box_apply (g : Fin 24) (h w : Fin 256) :
    val_main_v66 (F := Ideal) x0 x5 x8 x11 x14 x17 x20 (ix3 g h w) = nine (at3 (val_main_v41 (F := Ideal) x0 x5 x8 x11 x14 x17 x20) g) h w := by
  simp only [val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply]
  rw [shifted_at (k := idx_main_v49 (ix3 g h w)) (i := 0) (j := 0) (hg := rfl) (g := g) (h := h) (w := w) (hr := by first | rfl | exact (Nat.zero_add _).symm) (hq := by first | rfl | exact (Nat.zero_add _).symm), shifted_at (k := idx_main_v51 (ix3 g h w)) (i := 0) (j := 1) (hg := rfl) (g := g) (h := h) (w := w) (hr := by first | rfl | exact (Nat.zero_add _).symm) (hq := by first | rfl | exact (Nat.zero_add _).symm), shifted_at (k := idx_main_v53 (ix3 g h w)) (i := 0) (j := 2) (hg := rfl) (g := g) (h := h) (w := w) (hr := by first | rfl | exact (Nat.zero_add _).symm) (hq := by first | rfl | exact (Nat.zero_add _).symm), shifted_at (k := idx_main_v55 (ix3 g h w)) (i := 1) (j := 0) (hg := rfl) (g := g) (h := h) (w := w) (hr := by first | rfl | exact (Nat.zero_add _).symm) (hq := by first | rfl | exact (Nat.zero_add _).symm), shifted_at (k := idx_main_v57 (ix3 g h w)) (i := 1) (j := 1) (hg := rfl) (g := g) (h := h) (w := w) (hr := by first | rfl | exact (Nat.zero_add _).symm) (hq := by first | rfl | exact (Nat.zero_add _).symm), shifted_at (k := idx_main_v59 (ix3 g h w)) (i := 1) (j := 2) (hg := rfl) (g := g) (h := h) (w := w) (hr := by first | rfl | exact (Nat.zero_add _).symm) (hq := by first | rfl | exact (Nat.zero_add _).symm), shifted_at (k := idx_main_v61 (ix3 g h w)) (i := 2) (j := 0) (hg := rfl) (g := g) (h := h) (w := w) (hr := by first | rfl | exact (Nat.zero_add _).symm) (hq := by first | rfl | exact (Nat.zero_add _).symm), shifted_at (k := idx_main_v63 (ix3 g h w)) (i := 2) (j := 1) (hg := rfl) (g := g) (h := h) (w := w) (hr := by first | rfl | exact (Nat.zero_add _).symm) (hq := by first | rfl | exact (Nat.zero_add _).symm), shifted_at (k := idx_main_v65 (ix3 g h w)) (i := 2) (j := 2) (hg := rfl) (g := g) (h := h) (w := w) (hr := by first | rfl | exact (Nat.zero_add _).symm) (hq := by first | rfl | exact (Nat.zero_add _).symm)]
  show ((((((((((FloatOps.ofBits .f32 0x00000000#32 : Ideal .f32) : EReal) + (_ : EReal)) + (_ : EReal)) + (_ : EReal)) + (_ : EReal)) + (_ : EReal)) + (_ : EReal))
    + (_ : EReal)) + (_ : EReal)) + (_ : EReal) = _
  rw [literal_zero, nine]
  simp only [Fin.sum_univ_three]
  abel

/-- The low group's neighbourhood sums. -/
theorem low_box (i : S8x256x256.Idx) :
    val_main_v67 (F := Ideal) x0 x5 x8 x11 x14 x17 x20 i = nine (softSum x0 3 3 (by decide) (only x5) (only x8) (i 0)) (i 1) (i 2) := by
  rw [val_main_v67_apply, eq_ix3 (idx_main_v67 i), eq_ix3 i]
  refine (box_apply _ _ _ _ _ _ _ _ _ _).trans ?_
  refine congrArg (fun f => nine f (i 1) (i 2)) (funext fun h => funext fun w => ?_)
  exact (stack_low _ _ _ _ _ _ _ _ _ _).trans (low_sum _ _ _ _ _ _)

/-- A channel of the low group. -/
theorem low_apply (a : Fin 8) (h w : Fin 256) (c : Fin 3) :
    val_main_v88 (F := Ideal) x0 x5 x6 x7 x8 x9 x10 x11 x14 x17 x20 (ix4 a h w c)
      = coupled (only x7) (only x6) (only x9) (only x10)
          (nine (softSum x0 3 3 (by decide) (only x5) (only x8) a) h w) (at4 x0 a h w (⟨3 + c.val, by omega⟩ : Fin 36)) (only x5) := by
  simp only [val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v11_apply, low_box, eq_only, eq_at4 x0]
  rw [coupled, ← literal_one]
  rfl

/-- The mid group's neighbourhood sums. -/
theorem mid_box (i : S8x256x256.Idx) :
    val_main_v89 (F := Ideal) x0 x5 x8 x11 x14 x17 x20 i = nine (softSum x0 6 9 (by decide) (only x11) (only x14) (i 0)) (i 1) (i 2) := by
  rw [val_main_v89_apply, eq_ix3 (idx_main_v89 i), eq_ix3 i]
  refine (box_apply _ _ _ _ _ _ _ _ _ _).trans ?_
  refine congrArg (fun f => nine f (i 1) (i 2)) (funext fun h => funext fun w => ?_)
  exact (stack_mid _ _ _ _ _ _ _ _ _ _).trans (mid_sum _ _ _ _ _ _)

/-- A channel of the mid group. -/
theorem mid_apply (a : Fin 8) (h w : Fin 256) (c : Fin 9) :
    val_main_v110 (F := Ideal) x0 x5 x8 x11 x12 x13 x14 x15 x16 x17 x20 (ix4 a h w c)
      = coupled (only x13) (only x12) (only x15) (only x16)
          (nine (softSum x0 6 9 (by decide) (only x11) (only x14) a) h w) (at4 x0 a h w (⟨6 + c.val, by omega⟩ : Fin 36)) (only x11) := by
  simp only [val_main_v110_apply, val_main_v109_apply, val_main_v108_apply, val_main_v107_apply, val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, val_main_v12_apply, mid_box, eq_only, eq_at4 x0]
  rw [coupled, ← literal_one]
  rfl

/-- The high group's neighbourhood sums. -/
theorem high_box (i : S8x256x256.Idx) :
    val_main_v111 (F := Ideal) x0 x5 x8 x11 x14 x17 x20 i = nine (softSum x0 15 21 (by decide) (only x17) (only x20) (i 0)) (i 1) (i 2) := by
  rw [val_main_v111_apply, eq_ix3 (idx_main_v111 i), eq_ix3 i]
  refine (box_apply _ _ _ _ _ _ _ _ _ _).trans ?_
  refine congrArg (fun f => nine f (i 1) (i 2)) (funext fun h => funext fun w => ?_)
  exact (stack_high _ _ _ _ _ _ _ _ _ _).trans (high_sum _ _ _ _ _ _)

/-- A channel of the high group. -/
theorem high_apply (a : Fin 8) (h w : Fin 256) (c : Fin 21) :
    val_main_v132 (F := Ideal) x0 x5 x8 x11 x14 x17 x18 x19 x20 x21 x22 (ix4 a h w c)
      = coupled (only x19) (only x18) (only x21) (only x22)
          (nine (softSum x0 15 21 (by decide) (only x17) (only x20) a) h w) (at4 x0 a h w (⟨15 + c.val, by omega⟩ : Fin 36)) (only x17) := by
  simp only [val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v13_apply, high_box, eq_only, eq_at4 x0]
  rw [coupled, ← literal_one]
  rfl

/-- The result at a channel of the special group. -/
theorem result_special (a : Fin 8) (h w : Fin 256) (c : Fin 3) :
    val_main_v133 (F := Ideal) x0 x1 x2 x3 x5 x6 x7 x8 x9 x10 x11 x12 x13 x14 x15 x16 x17 x18 x19 x20 x21 x22 (ix4 a h w (⟨c.val, by omega⟩ : Fin 36)) = val_main_v10 (F := Ideal) x0 x1 x2 x3 (ix4 a h w c) := by
  unfold val_main_v133
  exact concatenate_apply_piece 3 _ _
    (ix4 a h w (⟨c.val, by omega⟩ : Fin 36)) 0 (by simp) S8x256x256x3 _ rfl rfl 0 rfl (ix4 a h w c)
    (fun b hb => by fin_cases b; rfl; rfl; rfl; exact absurd rfl hb) (Nat.zero_add _)

/-- The result at a channel of the low group. -/
theorem result_low (a : Fin 8) (h w : Fin 256) (c : Fin 3) :
    val_main_v133 (F := Ideal) x0 x1 x2 x3 x5 x6 x7 x8 x9 x10 x11 x12 x13 x14 x15 x16 x17 x18 x19 x20 x21 x22 (ix4 a h w (⟨3 + c.val, by omega⟩ : Fin 36)) = val_main_v88 (F := Ideal) x0 x5 x6 x7 x8 x9 x10 x11 x14 x17 x20 (ix4 a h w c) := by
  unfold val_main_v133
  exact concatenate_apply_piece 3 _ _
    (ix4 a h w (⟨3 + c.val, by omega⟩ : Fin 36)) 1 (by simp) S8x256x256x3 _ rfl rfl 3 rfl (ix4 a h w c)
    (fun b hb => by fin_cases b; rfl; rfl; rfl; exact absurd rfl hb) rfl

/-- The result at a channel of the mid group. -/
theorem result_mid (a : Fin 8) (h w : Fin 256) (c : Fin 9) :
    val_main_v133 (F := Ideal) x0 x1 x2 x3 x5 x6 x7 x8 x9 x10 x11 x12 x13 x14 x15 x16 x17 x18 x19 x20 x21 x22 (ix4 a h w (⟨6 + c.val, by omega⟩ : Fin 36)) = val_main_v110 (F := Ideal) x0 x5 x8 x11 x12 x13 x14 x15 x16 x17 x20 (ix4 a h w c) := by
  unfold val_main_v133
  exact concatenate_apply_piece 3 _ _
    (ix4 a h w (⟨6 + c.val, by omega⟩ : Fin 36)) 2 (by simp) S8x256x256x9 _ rfl rfl 6 rfl (ix4 a h w c)
    (fun b hb => by fin_cases b; rfl; rfl; rfl; exact absurd rfl hb) rfl

/-- The result at a channel of the high group. -/
theorem result_high (a : Fin 8) (h w : Fin 256) (c : Fin 21) :
    val_main_v133 (F := Ideal) x0 x1 x2 x3 x5 x6 x7 x8 x9 x10 x11 x12 x13 x14 x15 x16 x17 x18 x19 x20 x21 x22 (ix4 a h w (⟨15 + c.val, by omega⟩ : Fin 36)) = val_main_v132 (F := Ideal) x0 x5 x8 x11 x14 x17 x18 x19 x20 x21 x22 (ix4 a h w c) := by
  unfold val_main_v133
  exact concatenate_apply_piece 3 _ _
    (ix4 a h w (⟨15 + c.val, by omega⟩ : Fin 36)) 3 (by simp) S8x256x256x21 _ rfl rfl 15 rfl (ix4 a h w c)
    (fun b hb => by fin_cases b; rfl; rfl; rfl; exact absurd rfl hb) rfl

end Cert.ReferenceIdeal.Stages

end
-- ==== Proof.Params.lean ====
module

public import proofs.«01_k».proof.Proof.Ends
public import proofs.«01_k».proof.Proof.Readings
public import Idealize.ShloMosaic.Lib.Pipeline.Value
public import Idealize.ShloMosaic.Lib.ValueLayout

@[expose] public section

/-! # What the launch is given

The host code joins 22 numbers into one list, out of the arguments, and moves the channel axis of the coefficients to the
front of each image. -/

noncomputable section

namespace Cert.KernelIdeal.Params

open Idealize.ShloMosaic Idealize.ShloMosaic.TcCoe Idealize.ShloMosaic.ValueIdx
open Cert.Proof
open Cert.KernelIdeal Cert.KernelIdeal.Gen Cert.KernelIdeal.Ring

variable {F : FTy → Type} [FloatOps F] [Named F]
variable (m : (ℓ : Loc nD τ sig) → Buf (Elt F) ℓ) (c : Dev nD)

/-- A parameter, an array of one number. -/
abbrev One (F : FTy → Type) : Type := (⟨S1, .f32⟩ : BufTy).Contents (Elt F)

/-- An argument's array at the start. -/
abbrev arg (r : Ref sig .tc) : Buf (Elt F) ((c : Thread nD τ).loc r) := m ((c : Thread nD τ).loc r)

/-- Twice a parameter. -/
def doubled (x : One F) : One F := mulf (broadcastInDim S1 ![] bcast_S_S1 (constant S_ .f32 0x40000000#32)) x

/-- One over a parameter. -/
def inverted (x : One F) : One F := Host.divf (broadcastInDim S1 ![] bcast_S_S1 (constant S_ .f32 0x3F800000#32)) x

/-- The first sixteen numbers of the list. -/
def first16 : Fin 16 → One F :=
  ![arg m c main_arg1, arg m c main_arg2, arg m c main_arg3, doubled (arg m c main_arg3), arg m c main_arg5, arg m c main_arg8,
    inverted (arg m c main_arg10), mulf (arg m c main_arg6 : One F) (arg m c main_arg9), arg m c main_arg7, doubled (arg m c main_arg7),
    arg m c main_arg11, arg m c main_arg14, inverted (arg m c main_arg16), mulf (arg m c main_arg12 : One F) (arg m c main_arg15),
    arg m c main_arg13, doubled (arg m c main_arg13)]

/-- The last six numbers of the list. -/
def last6 : Fin 6 → One F :=
  ![arg m c main_arg17, arg m c main_arg20, inverted (arg m c main_arg22), mulf (arg m c main_arg18 : One F) (arg m c main_arg21),
    arg m c main_arg19, doubled (arg m c main_arg19)]

/-- The first sixteen numbers fit together. -/
theorem cat16 : Shape.Concatenates ((List.ofFn fun n : Fin 16 => (⟨S1, first16 m c n⟩ : (s : Shape) × (s.Idx → Elt F .f32))).map (·.1)) S16 0 :=
  concatenates_S1_S1_S1_S1_S1_S1_S1_S1_S1_S1_S1_S1_S1_S1_S1_S1_S16_d0

/-- The last six numbers fit together. -/
theorem cat6 : Shape.Concatenates ((List.ofFn fun n : Fin 6 => (⟨S1, last6 m c n⟩ : (s : Shape) × (s.Idx → Elt F .f32))).map (·.1)) S6 0 :=
  concatenates_S1_S1_S1_S1_S1_S1_S6_d0

/-- The list of 22 numbers the launch is given. -/
theorem params_eq : (params m c : S22.Idx → Elt F .f32) = concatenate S22 0
    [⟨S16, concatenate S16 0 (List.ofFn fun n : Fin 16 => (⟨S1, first16 m c n⟩ : (s : Shape) × (s.Idx → Elt F .f32))) (cat16 m c)⟩,
      ⟨S6, concatenate S6 0 (List.ofFn fun n : Fin 6 => (⟨S1, last6 m c n⟩ : (s : Shape) × (s.Idx → Elt F .f32))) (cat6 m c)⟩]
    concatenates_S16_S6_S22_d0 := by
  show StableHlo.after (hostOps0 (F := F)) _ _ = _
  after_results_simp
  rfl

/-- Loading parameter `k` reads element `k` of the list. -/
theorem param_eq (P : S22.Idx → Elt F .f32) (k : Fin 22) : Channel.param P k = P (ix1 k) := by
  refine congrArg P (funext fun a => Fin.ext ?_)
  match a with
  | ⟨0, _⟩ => show k.val + 1 * 0 = k.val; omega

/-- One of the first sixteen parameters, as the kernel loads it. -/
theorem param_first (k : Fin 16) : Channel.param (params m c) (⟨k.val, by omega⟩ : Fin 22) = only (first16 m c k) := by
  rw [param_eq, params_eq]
  refine (concatenate_apply_piece 0 _ _ (ix1 (⟨k.val, by omega⟩ : Fin 22)) 0 (by simp) S16 _ rfl rfl 0 rfl (ix1 k)
    (fun b hb => by fin_cases b; exact absurd rfl hb) (Nat.zero_add _)).trans ?_
  refine (concatenate_ofFn_unit_apply (t := S16) 0 (first16 m c) _ rfl rfl (ix1 k) k rfl (ix1 0)
    (fun b hb => by fin_cases b; exact absurd rfl hb)).trans ?_
  exact eq_only _ _

/-- One of the last six parameters, as the kernel loads it. -/
theorem param_last (k : Fin 6) : Channel.param (params m c) (⟨16 + k.val, by omega⟩ : Fin 22) = only (last6 m c k) := by
  rw [param_eq, params_eq]
  refine (concatenate_apply_piece 0 _ _ (ix1 (⟨16 + k.val, by omega⟩ : Fin 22)) 1 (by simp) S6 _ rfl rfl 16 rfl (ix1 k)
    (fun b hb => by fin_cases b; exact absurd rfl hb) rfl).trans ?_
  refine (concatenate_ofFn_unit_apply (t := S6) 0 (last6 m c) _ rfl rfl (ix1 k) k rfl (ix1 0)
    (fun b hb => by fin_cases b; exact absurd rfl hb)).trans ?_
  exact eq_only _ _

/-- The images the launch is given: the channel axis before the two axes of the image. -/
theorem images_at (a : Fin 8) (ch : Fin 36) (h w : Fin 256) :
    (images m c : S8x36x256x256.Idx → Elt F .f32) (ix4 a ch h w) = at4 (arg m c main_arg0 : S8x256x256x36.Idx → Elt F .f32) a h w ch := by
  have e : (images m c : S8x36x256x256.Idx → Elt F .f32)
      = transpose S8x36x256x256 [0, 3, 1, 2] (arg m c main_arg0 : S8x256x256x36.Idx → Elt F .f32) transposes_S8x256x256x36_S8x36x256x256_0_3_1_2 := by
    show StableHlo.after (hostOps0 (F := F)) _ _ = _
    after_results_simp
  rw [e]
  exact transpose_apply _ _ _ (ix4 a ch h w) (ix4 a h w ch) fun b => match b with
    | ⟨0, _⟩ => rfl
    | ⟨1, _⟩ => rfl
    | ⟨2, _⟩ => rfl
    | ⟨3, _⟩ => rfl

/-- What the host code makes of the launch's result: the channel axis last again. -/
theorem back_at (Y : S8x36x256x256.Idx → Elt F .f32) (a : Fin 8) (h w : Fin 256) (ch : Fin 36) :
    transpose S8x256x256x36 [0, 2, 3, 1] Y transposes_S8x36x256x256_S8x256x256x36_0_2_3_1 (ix4 a h w ch) = Y (ix4 a ch h w) :=
  transpose_apply _ _ _ (ix4 a h w ch) (ix4 a ch h w) fun b => match b with
    | ⟨0, _⟩ => rfl
    | ⟨1, _⟩ => rfl
    | ⟨2, _⟩ => rfl
    | ⟨3, _⟩ => rfl

end Cert.KernelIdeal.Params

namespace Cert.KernelIdeal.Params

open Idealize.ShloMosaic Idealize.ShloMosaic.ValueIdx
open Cert.Proof
open Cert.KernelIdeal Cert.KernelIdeal.Gen Cert.KernelIdeal.Ring

/-- The literal of the doubled parameters is 2. -/
theorem literal_two : (FloatOps.ofBits .f32 0x40000000#32 : Ideal .f32) = (2 : EReal) := by
  show Ideal.ofBits .f32 0x40000000#32 = (2 : EReal)
  rw [show (2 : EReal) = ((2 : ℝ) : EReal) by norm_cast]
  simp [Ideal.ofBits, Ideal.ieee, -EReal.coe_mul]
  norm_num

/-- Twice a parameter, as a number. -/
theorem only_doubled (x : One Ideal) : (only (doubled x) : EReal) = 2 * only x := by
  show (FloatOps.ofBits .f32 0x40000000#32 : Ideal .f32) * (only x : EReal) = _
  rw [literal_two]

/-- One over a parameter, as a number. -/
theorem only_inverted (x : One Ideal) : (only (inverted x) : EReal) = Ideal.div 1 (only x) := by
  show Ideal.div (FloatOps.ofBits .f32 0x3F800000#32 : Ideal .f32) (only x : EReal) = _
  rw [literal_one]

end Cert.KernelIdeal.Params

end
-- ==== Proof.Conditions.lean ====
module

public import proofs.«01_k».proof.Pre_exact_params
public import proofs.«01_k».proof.Proof.Readings
public import Idealize.ShloMosaic.Lib.IdealHost
public import Idealize.ShloMosaic.PureOps.Ideal.Laws

@[expose] public section

/-! # What the precondition says of the parameters -/

noncomputable section

namespace Cert.Pre_exact_params

open Idealize.ShloMosaic
open Cert.Proof

/-- The one shape relation the precondition states. -/
theorem facts : Facts := ⟨by decide⟩

attribute [local instance] facts

/-- A parameter, an array of one number. -/
abbrev One : Type := FVec Ideal S1 .f32

/-- Both of two bits. -/
theorem both {a b : IVec S1 1} {i : S1.Idx} (h : andi a b i = 1#1) : a i = 1#1 ∧ b i = 1#1 :=
  (by decide : ∀ x y : BitVec 1, x &&& y = 1#1 → x = 1#1 ∧ y = 1#1) (a i) (b i) h

/-- A decided proposition whose bit is set holds. -/
theorem holds {p : Prop} [Decidable p] (h : BitVec.ofBool (decide p) = 1#1) : p := by
  by_contra hp
  rw [decide_eq_false hp] at h
  exact absurd h (by decide)

/-- The literal of infinity. -/
theorem literal_top : (FloatOps.ofBits .f32 0x7F800000#32 : Ideal .f32) = (⊤ : EReal) := by
  show Ideal.ofBits .f32 0x7F800000#32 = (⊤ : EReal)
  simp [Ideal.ofBits, Ideal.ieee]

/-- A parameter whose absolute value is below infinity is a real number. -/
theorem real_of {x : One} {i : S1.Idx}
    (h : cmpf .olt (Host.absf x) (broadcastInDim S1 ![] Facts.bcast_S_S1 (constant (F := Ideal) S_ .f32 0x7F800000#32)) i = 1#1) :
    ∃ r : ℝ, (only x : EReal) = (r : EReal) := by
  have h1 : max (x i : EReal) (-(x i : EReal)) < (FloatOps.ofBits .f32 0x7F800000#32 : Ideal .f32) := holds h
  rw [literal_top, eq_only x i] at h1
  have hx : (only x : EReal) ≠ ⊤ := fun e => by rw [e] at h1; exact absurd h1 (by simp)
  have hy : (only x : EReal) ≠ ⊥ := fun e => by rw [e] at h1; exact absurd h1 (by simp)
  exact ⟨(only x : EReal).toReal, (EReal.coe_toReal hx hy).symm⟩

/-- A parameter compared above zero is positive. -/
theorem pos_of {x : One} {i : S1.Idx}
    (h : cmpf .ogt x (broadcastInDim S1 ![] Facts.bcast_S_S1 (constant (F := Ideal) S_ .f32 0x00000000#32)) i = 1#1) :
    (0 : EReal) < only x := by
  have h1 : (FloatOps.ofBits .f32 0x00000000#32 : Ideal .f32) < (x i : EReal) := holds h
  rwa [literal_zero, eq_only x i] at h1

/-- A parameter compared equal to zero is zero. -/
theorem zero_of {x : One} {i : S1.Idx}
    (h : cmpf .oeq x (broadcastInDim S1 ![] Facts.bcast_S_S1 (constant (F := Ideal) S_ .f32 0x00000000#32)) i = 1#1) :
    (only x : EReal) = 0 := by
  have h1 : (x i : EReal) = (FloatOps.ofBits .f32 0x00000000#32 : Ideal .f32) := holds h
  rwa [literal_zero, eq_only x i] at h1

/-- What the precondition says of the parameters it names: the four amplitudes are real numbers, the three saturations are
    positive and the three soft-absolute-value offsets are zero. -/
structure Good (x3 x7 x8 x10 x13 x14 x16 x19 x20 x22 : One) : Prop where
  amax : ∃ r : ℝ, (only x3 : EReal) = (r : EReal)
  lowAmax : ∃ r : ℝ, (only x7 : EReal) = (r : EReal)
  midAmax : ∃ r : ℝ, (only x13 : EReal) = (r : EReal)
  highAmax : ∃ r : ℝ, (only x19 : EReal) = (r : EReal)
  lowSat : (0 : EReal) < only x10
  midSat : (0 : EReal) < only x16
  highSat : (0 : EReal) < only x22
  lowEps : (only x8 : EReal) = 0
  midEps : (only x14 : EReal) = 0
  highEps : (only x20 : EReal) = 0

/-- The precondition, read. -/
theorem good (x0 : FVec Ideal S8x256x256x36 .f32)
    (x1 x2 x3 x4 x5 x6 x7 x8 x9 x10 x11 x12 x13 x14 x15 x16 x17 x18 x19 x20 x21 x22 : One)
    (h : fn (F := Ideal) x0 x1 x2 x3 x4 x5 x6 x7 x8 x9 x10 x11 x12 x13 x14 x15 x16 x17 x18 x19 x20 x21 x22 = fun _ => 1#1) :
    Good x3 x7 x8 x10 x13 x14 x16 x19 x20 x22 := by
  have h0 := congrFun h (fun | ⟨0, _⟩ => (0 : Fin 1))
  unfold fn fn_part1 at h0
  dsimp only at h0
  obtain ⟨h1, e⟩ := both h0
  obtain ⟨f, p⟩ := both h1
  obtain ⟨e12, e3⟩ := both e
  obtain ⟨e1, e2⟩ := both e12
  obtain ⟨p12, p3⟩ := both p
  obtain ⟨p1, p2⟩ := both p12
  obtain ⟨f123, f4⟩ := both f
  obtain ⟨f12, f3⟩ := both f123
  obtain ⟨f1, f2⟩ := both f12
  exact ⟨real_of f1, real_of f2, real_of f3, real_of f4, pos_of p1, pos_of p2, pos_of p3, zero_of e1, zero_of e2, zero_of e3⟩

end Cert.Pre_exact_params

end
-- ==== Proof.Equation.lean ====
module

public import proofs.«01_k».proof.Proof.KernelValue
public import proofs.«01_k».proof.Proof.Stages
public import proofs.«01_k».proof.Proof.Params
public import proofs.«01_k».proof.Proof.Conditions

@[expose] public section

/-! # The kernel's value is the reference's

`X` is one image of the batch, channels first; `x0` is the batch, channels last. Each channel of the result is `squash`
of the kernel on one side, a stage of the reference on the other; the identities of `Algebra` join them. -/

noncomputable section

namespace Cert.Proof

open Idealize.ShloMosaic Idealize.ShloMosaic.TcCoe Idealize.ShloMosaic.ValueIdx
open Cert.Proof.Algebra
open Cert.KernelIdeal (S22 S36x256x256 S8x36x256x256 S8x256x256x36)
open Cert.KernelIdeal.Channel Cert.KernelIdeal.Ring Cert.KernelIdeal.Params
open Cert.ReferenceIdeal.Stages (softSum coupled Input)

section Channels

variable (P : S22.Idx → Elt Ideal .f32) (X : S36x256x256.Idx → Elt Ideal .f32) (x0 : Input) (a : Fin 8)
  (hX : ∀ ch h w, at3 X ch h w = at4 x0 a h w ch)

include hX

/-- With the offset zero the reference's soft sum is the kernel's sum of absolute values. -/
theorem hard_soft (o n : ℕ) (hn : o + n ≤ 36) (b : EReal) : hardSum X o n hn b = softSum x0 o n hn b 0 a := by
  funext h w
  refine Finset.sum_congr rfl fun k _ => ?_
  rw [hX]
  exact (sqrt_square _).symm

/-- A special channel. -/
theorem special_channel (kb kg ka k2 : Fin 22) (b al : EReal) (r : ℝ) (hb : (param P kb : EReal) = b) (hg : (param P kg : EReal) = al)
    (ha : (param P ka : EReal) = (r : EReal)) (h2 : (param P k2 : EReal) = 2 * (r : EReal)) (ch : Fin 36) (h w : Fin 256) :
    squash (F := Ideal) (shifted (chan X ch) (param P kb)) (broadcast _ (scaled (param P kg))) (param P ka) (param P k2) (ix2 h w)
      = (r : EReal) * Ideal.tanh (al * ((at4 x0 a h w ch : EReal) + b)) := by
  rw [squash_apply, shifted_apply, hX]
  show (param P ka : EReal) - Ideal.div (param P k2) (1 + Ideal.exp2 (((at4 x0 a h w ch : EReal) + param P kb) * scaled (F := Ideal) (param P kg))) = _
  rw [scaled_eq, hb, hg, ha, h2]
  exact special_eq r al _

/-- A channel of a coupled group. -/
theorem group_channel (kb ki kg ka k2 : Fin 22) (o n : ℕ) (hn : o + n ≤ 36) (c0 : Fin 36) (cs : List (Fin 36))
    (hcs : c0 :: cs = List.ofFn fun k : Fin n => (⟨o + k.val, by omega⟩ : Fin 36)) (b al gs p : EReal) (r : ℝ)
    (hb : (param P kb : EReal) = b) (hi : (param P ki : EReal) = Ideal.div 1 p) (hg : (param P kg : EReal) = al * gs)
    (ha : (param P ka : EReal) = (r : EReal)) (h2 : (param P k2 : EReal) = 2 * (r : EReal)) (hp : 0 < p) (ch : Fin 36) (h w : Fin 256) :
    squash (F := Ideal) (shifted (chan X ch) (param P kb)) (groupGain P X kb ki kg c0 cs) (param P ka) (param P k2) (ix2 h w)
      = coupled r al gs p (nine (softSum x0 o n hn b 0 a) h w) (at4 x0 a h w ch) b := by
  rw [squash_apply, shifted_apply, hX, groupGain_apply P X kb ki kg o n hn c0 cs hcs, hb, hi, hg, ha, h2,
    hard_soft X x0 a hX o n hn b]
  refine coupled_eq r al gs p _ _ hp (nine_nonneg _ (fun h w => ?_) h w)
  rw [← hard_soft X x0 a hX o n hn b]
  exact Finset.sum_nonneg fun k _ => abs_nonneg' _

end Channels

variable (m : (ℓ : Loc Cert.KernelIdeal.nD Cert.KernelIdeal.τ Cert.KernelIdeal.sig) → Buf (Elt Ideal) ℓ) (c : Dev Cert.KernelIdeal.nD)

/-- One image of the batch the launch is given. -/
theorem image_at (a : Fin 8) (ch : Fin 36) (h w : Fin 256) :
    at3 (img (images m c) a) ch h w = at4 (arg m c Cert.KernelIdeal.main_arg0 : Input) a h w ch := by
  refine Eq.trans (congrArg (images m c) ?_) (images_at m c a ch h w)
  funext d
  match d with
  | ⟨0, _⟩ => rfl
  | ⟨1, _⟩ => rfl
  | ⟨2, _⟩ => rfl
  | ⟨3, _⟩ => rfl

/-- The array the launch leaves, at an element. -/
theorem after_at (a : Fin 8) (ch : Fin 36) (h w : Fin 256) :
    after m c (ix4 a ch h w) = outChan (params m c) (img (images m c) a) ch (ix2 h w) := by
  refine congrArg (outChan (params m c) (img (images m c) a) ch) (funext fun d => ?_)
  match d with
  | ⟨0, _⟩ => rfl
  | ⟨1, _⟩ => rfl

/-- What the reference computes from the arguments the kernel is given. -/
abbrev expected : S8x256x256x36.Idx → Elt Ideal .f32 :=
  Cert.ReferenceIdeal.Read.val_main_v133 (F := Ideal) (arg m c Cert.KernelIdeal.main_arg0) (arg m c Cert.KernelIdeal.main_arg1) (arg m c Cert.KernelIdeal.main_arg2) (arg m c Cert.KernelIdeal.main_arg3)
    (arg m c Cert.KernelIdeal.main_arg5) (arg m c Cert.KernelIdeal.main_arg6) (arg m c Cert.KernelIdeal.main_arg7) (arg m c Cert.KernelIdeal.main_arg8)
    (arg m c Cert.KernelIdeal.main_arg9) (arg m c Cert.KernelIdeal.main_arg10) (arg m c Cert.KernelIdeal.main_arg11) (arg m c Cert.KernelIdeal.main_arg12)
    (arg m c Cert.KernelIdeal.main_arg13) (arg m c Cert.KernelIdeal.main_arg14) (arg m c Cert.KernelIdeal.main_arg15) (arg m c Cert.KernelIdeal.main_arg16)
    (arg m c Cert.KernelIdeal.main_arg17) (arg m c Cert.KernelIdeal.main_arg18) (arg m c Cert.KernelIdeal.main_arg19) (arg m c Cert.KernelIdeal.main_arg20)
    (arg m c Cert.KernelIdeal.main_arg21) (arg m c Cert.KernelIdeal.main_arg22)

/-- The precondition of the arguments the kernel is given. -/
abbrev GoodArgs : Prop :=
  Cert.Pre_exact_params.Good (arg m c Cert.KernelIdeal.main_arg3) (arg m c Cert.KernelIdeal.main_arg7) (arg m c Cert.KernelIdeal.main_arg8) (arg m c Cert.KernelIdeal.main_arg10) (arg m c Cert.KernelIdeal.main_arg13)
    (arg m c Cert.KernelIdeal.main_arg14) (arg m c Cert.KernelIdeal.main_arg16) (arg m c Cert.KernelIdeal.main_arg19) (arg m c Cert.KernelIdeal.main_arg20) (arg m c Cert.KernelIdeal.main_arg22)

/-- The special channels. -/
theorem special_equal (H : GoodArgs m c) (a : Fin 8) (h w : Fin 256) (k : Fin 3) :
    outChan (params m c) (img (images m c) a) (⟨k.val, by omega⟩ : Fin 36) (ix2 h w) = expected m c (ix4 a h w (⟨k.val, by omega⟩ : Fin 36)) := by
  obtain ⟨r, hr⟩ := H.amax
  unfold outChan
  rw [if_pos (by show k.val < 3; omega)]
  refine Eq.trans ?_ ((Cert.ReferenceIdeal.Stages.result_special _ _ _ _ _ _ _ _ _ _ _ _ _ _ _ _ _ _ _ _ _ _ a h w k).trans
    (Cert.ReferenceIdeal.Stages.special_apply _ _ _ _ a h w k)).symm
  rw [hr]
  exact special_channel (params m c) (img (images m c) a) _ a (image_at m c a) 0 1 2 3 _ _ r (param_first m c 0) (param_first m c 1)
    ((param_first m c 2).trans hr) ((param_first m c 3).trans ((only_doubled _).trans (congrArg (fun z : EReal => 2 * z) hr))) _ h w

/-- The channels of the low group. -/
theorem low_equal (H : GoodArgs m c) (a : Fin 8) (h w : Fin 256) (k : Fin 3) :
    outChan (params m c) (img (images m c) a) (⟨3 + k.val, by omega⟩ : Fin 36) (ix2 h w)
      = expected m c (ix4 a h w (⟨3 + k.val, by omega⟩ : Fin 36)) := by
  obtain ⟨r, hr⟩ := H.lowAmax
  unfold outChan
  rw [if_neg (by show ¬ 3 + k.val < 3; omega), if_pos (by show 3 + k.val < 6; omega)]
  refine Eq.trans ?_ ((Cert.ReferenceIdeal.Stages.result_low _ _ _ _ _ _ _ _ _ _ _ _ _ _ _ _ _ _ _ _ _ _ a h w k).trans
    (Cert.ReferenceIdeal.Stages.low_apply _ _ _ _ _ _ _ _ _ _ _ a h w k)).symm
  rw [hr, H.lowEps]
  exact group_channel (params m c) (img (images m c) a) _ a (image_at m c a) 4 6 7 8 9 3 3 (by decide) 3
    [4, 5] rfl _ _ _ _ r
    (param_first m c 4) ((param_first m c 6).trans (only_inverted _)) (param_first m c 7) ((param_first m c 8).trans hr)
    ((param_first m c 9).trans ((only_doubled _).trans (congrArg (fun z : EReal => 2 * z) hr))) H.lowSat _ h w

/-- The channels of the mid group. -/
theorem mid_equal (H : GoodArgs m c) (a : Fin 8) (h w : Fin 256) (k : Fin 9) :
    outChan (params m c) (img (images m c) a) (⟨6 + k.val, by omega⟩ : Fin 36) (ix2 h w)
      = expected m c (ix4 a h w (⟨6 + k.val, by omega⟩ : Fin 36)) := by
  obtain ⟨r, hr⟩ := H.midAmax
  unfold outChan
  rw [if_neg (by show ¬ 6 + k.val < 3; omega), if_neg (by show ¬ 6 + k.val < 6; omega), if_pos (by show 6 + k.val < 15; omega)]
  refine Eq.trans ?_ ((Cert.ReferenceIdeal.Stages.result_mid _ _ _ _ _ _ _ _ _ _ _ _ _ _ _ _ _ _ _ _ _ _ a h w k).trans
    (Cert.ReferenceIdeal.Stages.mid_apply _ _ _ _ _ _ _ _ _ _ _ a h w k)).symm
  rw [hr, H.midEps]
  exact group_channel (params m c) (img (images m c) a) _ a (image_at m c a) 10 12 13 14 15 6 9 (by decide) 6
    [7, 8, 9, 10, 11, 12, 13, 14] rfl _ _ _ _ r
    (param_first m c 10) ((param_first m c 12).trans (only_inverted _)) (param_first m c 13) ((param_first m c 14).trans hr)
    ((param_first m c 15).trans ((only_doubled _).trans (congrArg (fun z : EReal => 2 * z) hr))) H.midSat _ h w

/-- The channels of the high group. -/
theorem high_equal (H : GoodArgs m c) (a : Fin 8) (h w : Fin 256) (k : Fin 21) :
    outChan (params m c) (img (images m c) a) (⟨15 + k.val, by omega⟩ : Fin 36) (ix2 h w)
      = expected m c (ix4 a h w (⟨15 + k.val, by omega⟩ : Fin 36)) := by
  obtain ⟨r, hr⟩ := H.highAmax
  unfold outChan
  rw [if_neg (by show ¬ 15 + k.val < 3; omega), if_neg (by show ¬ 15 + k.val < 6; omega), if_neg (by show ¬ 15 + k.val < 15; omega)]
  refine Eq.trans ?_ ((Cert.ReferenceIdeal.Stages.result_high _ _ _ _ _ _ _ _ _ _ _ _ _ _ _ _ _ _ _ _ _ _ a h w k).trans
    (Cert.ReferenceIdeal.Stages.high_apply _ _ _ _ _ _ _ _ _ _ _ a h w k)).symm
  rw [hr, H.highEps]
  exact group_channel (params m c) (img (images m c) a) _ a (image_at m c a) 16 18 19 20 21 15 21 (by decide) 15
    [16, 17, 18, 19, 20, 21, 22, 23, 24, 25, 26, 27, 28, 29, 30, 31, 32, 33, 34, 35] rfl _ _ _ _ r
    (param_last m c 0) ((param_last m c 2).trans (only_inverted _)) (param_last m c 3) ((param_last m c 4).trans hr)
    ((param_last m c 5).trans ((only_doubled _).trans (congrArg (fun z : EReal => 2 * z) hr))) H.highSat _ h w

/-- Every channel the kernel computes is the reference's. -/
theorem channel_equal (H : GoodArgs m c) (a : Fin 8) (h w : Fin 256) (ch : Fin 36) :
    outChan (params m c) (img (images m c) a) ch (ix2 h w) = expected m c (ix4 a h w ch) := by
  have hc : ch.val < 36 := ch.isLt
  by_cases h1 : ch.val < 3
  · exact special_equal m c H a h w ⟨ch.val, h1⟩
  by_cases h2 : ch.val < 6
  · obtain ⟨k, e⟩ : ∃ k : Fin 3, ch = (⟨3 + k.val, by omega⟩ : Fin 36) :=
      ⟨⟨ch.val - 3, by omega⟩, Fin.ext (by show ch.val = 3 + (ch.val - 3); omega)⟩
    rw [e]
    exact low_equal m c H a h w k
  by_cases h3 : ch.val < 15
  · obtain ⟨k, e⟩ : ∃ k : Fin 9, ch = (⟨6 + k.val, by omega⟩ : Fin 36) :=
      ⟨⟨ch.val - 6, by omega⟩, Fin.ext (by show ch.val = 6 + (ch.val - 6); omega)⟩
    rw [e]
    exact mid_equal m c H a h w k
  · obtain ⟨k, e⟩ : ∃ k : Fin 21, ch = (⟨15 + k.val, by omega⟩ : Fin 36) :=
      ⟨⟨ch.val - 15, by omega⟩, Fin.ext (by show ch.val = 15 + (ch.val - 15); omega)⟩
    rw [e]
    exact high_equal m c H a h w k

/-- The kernel's result, its channels last, is the reference's. -/
theorem values_equal (H : GoodArgs m c) :
    transpose S8x256x256x36 [0, 2, 3, 1] (after m c : S8x36x256x256.Idx → Elt Ideal .f32)
      Cert.KernelIdeal.Gen.transposes_S8x36x256x256_S8x256x256x36_0_2_3_1 = expected m c := by
  have each : ∀ (a : Fin 8) (h w : Fin 256) (ch : Fin 36),
      transpose S8x256x256x36 [0, 2, 3, 1] (after m c : S8x36x256x256.Idx → Elt Ideal .f32)
        Cert.KernelIdeal.Gen.transposes_S8x36x256x256_S8x256x256x36_0_2_3_1 (ix4 a h w ch) = expected m c (ix4 a h w ch) := fun a h w ch =>
    (back_at _ a h w ch).trans ((after_at m c a ch h w).trans (channel_equal m c H a h w ch))
  funext i
  exact (congrArg _ (eq_ix4 i)).trans ((each (i 0) (i 1) (i 2) (i 3)).trans (congrArg _ (eq_ix4 i).symm))

end Cert.Proof

end
-- ==== Proof.Algebraic.lean ====
module

public import proofs.«01_k».proof.Defs
public import proofs.«01_k».proof.Proof.Frames
public import proofs.«01_k».proof.Proof.Equation

@[expose] public section

/-! # The value claim, and the frames under the precondition -/

noncomputable section

namespace Cert.Proof

open Idealize.ShloMosaic Idealize.SL.Sem

attribute [local instance] Cert.Pre_exact_params.facts

/-- The kernel's frame, stated under the precondition. -/
theorem frame_ideal_pre : Cert.quiescent_KernelIdeal_pre_exact_params := fun m g _ => frame_ideal m g trivial

/-- The reference's frame, stated under the precondition. -/
theorem frame_reference_pre : Cert.quiescent_ReferenceIdeal_pre_exact_params := fun m g _ => frame_reference m g trivial

/-- From equal arguments the kernel and the reference leave the same array. -/
theorem algebraic : Cert.algebraic_KernelIdeal_ReferenceIdeal_pre_exact_params := fun m g m' g' hpre heq => by
  have H : ∀ c, GoodArgs m c := fun c => Cert.Pre_exact_params.good _ _ _ _ _ _ _ _ _ _ _ _ _ _ _ _ _ _ _ _ _ _ _ (hpre c)
  refine ⟨fun c => expected m c, ?_, ?_⟩
  · exact (θ_run Cert.KernelIdeal.defs _ _).mono
      (fun r h c => ⟨((h.1 c).1).trans (values_equal m c (H c)), each_arg (h.1 c).2⟩) (Cert.KernelIdeal.Ring.run_ends (F := Ideal) m g)
  · refine (θ_run Cert.ReferenceIdeal.defs _ _).mono (fun r h c => ⟨((h c).1).trans ?_, (h c).2⟩) (Cert.ReferenceIdeal.Value.run (F := Ideal) m' g')
    obtain ⟨e0, e1, e2, e3, e4, e5, e6, e7, e8, e9, e10, e11, e12, e13, e14, e15, e16, e17, e18, e19, e20, e21, e22⟩ := heq c
    refine (Cert.ReferenceIdeal.Read.val_main_v133_eq _).trans ?_
    show _ = expected m c
    unfold expected Cert.KernelIdeal.Params.arg
    rw [← e0, ← e1, ← e2, ← e3, ← e5, ← e6, ← e7, ← e8, ← e9, ← e10, ← e11, ← e12, ← e13, ← e14, ← e15, ← e16, ← e17, ← e18, ← e19, ← e20,
      ← e21, ← e22]

end Cert.Proof

end
-- ==== Proof.lean ====
/- The certificate's claims, each proved in a module under Proof/ and put together here. -/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

/-- Everything claimed: the three programs run and leave their arguments, the named constant stands for the printed one, and
under the precondition the kernel's result is the reference's. -/
theorem claim : Cert.Claim :=
  ⟨Cert.Kernel.Gen.facts, Cert.KernelIdeal.Gen.facts, Cert.ReferenceIdeal.Gen.facts, Cert.Pre_exact_params.facts,
    frame_kernel, frame_ideal, frame_ideal_pre, frame_reference, frame_reference_pre, preserves, algebraic⟩

end Cert.Proof

end
